-- ==== Defs.lean ====
def Pre_Kernel (m : (ℓ : Loc Cert.Kernel.nD Cert.Kernel.τ Cert.Kernel.sig) → Buf (Elt Bits) ℓ) : Prop :=
  True

def Pre_Kernel_tame [hPre_tame : Cert.Pre_tame.Facts] (m : (ℓ : Loc Cert.Kernel.nD Cert.Kernel.τ Cert.Kernel.sig) → Buf (Elt Bits) ℓ) : Prop :=
  ∀ c : Dev Cert.Kernel.nD,
    (Cert.Pre_tame.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_tame [hKernel : Cert.Kernel.Facts] [hPre_tame : Cert.Pre_tame.Facts] : Prop :=
  ∀ (m : (ℓ : Loc Cert.Kernel.nD Cert.Kernel.τ Cert.Kernel.sig) → Buf (Elt Bits) ℓ) (g : Dev Cert.Kernel.nD → PrngReg), Pre_Kernel_tame m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_Kernel_pre_tame (hKernel := hKernel) (hPre_tame := hPre_tame)
    ∧ quiescent_KernelIdeal (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal (hKernelIdeal := hKernelIdeal) (hReferenceIdeal := hReferenceIdeal) (hPre_tame := hPre_tame)
-- ==== Pre_tame.lean ====
abbrev S8x256x32x32 : Shape := ⟨4, ![8, 256, 32, 32]⟩
abbrev S4x1024x64 : Shape := ⟨3, ![4, 1024, 64]⟩
abbrev S_ : Shape := ⟨0, ![]⟩
abbrev S8x4x64x1024 : Shape := ⟨4, ![8, 4, 64, 1024]⟩
abbrev S8x4x1024 : Shape := ⟨3, ![8, 4, 1024]⟩
abbrev S8x4x1x1024 : Shape := ⟨4, ![8, 4, 1, 1024]⟩
abbrev S4x8x1024x1024 : Shape := ⟨4, ![4, 8, 1024, 1024]⟩
abbrev S8x4x1024x1024 : Shape := ⟨4, ![8, 4, 1024, 1024]⟩
abbrev S4x1024 : Shape := ⟨2, ![4, 1024]⟩
abbrev S1x4x1024x1 : Shape := ⟨4, ![1, 4, 1024, 1]⟩

class Facts : Prop where
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  h_S_ : 0 < S_.numel
  bcast_S_S4x1024x64 : S_.BroadcastsInDim S4x1024x64 (![] : Fin 0 → Fin S4x1024x64.rank)
  reducesTo_S4x1024x64_S_d0_1_2 : S4x1024x64.ReducesTo [0, 1, 2] S_
  shapeCasts_S8x256x32x32_S8x4x64x1024 : S8x256x32x32.ShapeCasts S8x4x64x1024
  reducesTo_S8x4x64x1024_S8x4x1024_d2 : S8x4x64x1024.ReducesTo [2] S8x4x1024
  bcast_S8x4x1024_S8x4x1x1024_0_1_3 : S8x4x1024.BroadcastsInDim S8x4x1x1024 (![0, 1, 3] : Fin 3 → Fin S8x4x1x1024.rank)
  transposes_S4x8x1024x1024_S8x4x1024x1024_1_0_3_2 : S4x8x1024x1024.Transposes [1, 0, 3, 2] S8x4x1024x1024
  bcast_S_S8x4x1024x1024 : S_.BroadcastsInDim S8x4x1024x1024 (![] : Fin 0 → Fin S8x4x1024x1024.rank)
  bcast_S8x4x1x1024_S8x4x1024x1024_0_1_2_3 : S8x4x1x1024.BroadcastsInDim S8x4x1024x1024 (![0, 1, 2, 3] : Fin 4 → Fin S8x4x1024x1024.rank)
  reducesTo_S4x1024x64_S4x1024_d2 : S4x1024x64.ReducesTo [2] S4x1024
  bcast_S4x1024_S1x4x1024x1_1_2 : S4x1024.BroadcastsInDim S1x4x1024x1 (![1, 2] : Fin 2 → Fin S1x4x1024x1.rank)
  bcast_S1x4x1024x1_S8x4x1024x1024_0_1_2_3 : S1x4x1024x1.BroadcastsInDim S8x4x1024x1024 (![0, 1, 2, 3] : Fin 4 → Fin S8x4x1024x1024.rank)
  reducesTo_S8x4x1024x1024_S8x4x1024_d2 : S8x4x1024x1024.ReducesTo [2] S8x4x1024
  natLt_1_32 : 1 < 32
  bcast_S_S8x4x1024 : S_.BroadcastsInDim S8x4x1024 (![] : Fin 0 → Fin S8x4x1024.rank)
  reducesTo_S8x4x1024_S_d0_1_2 : S8x4x1024.ReducesTo [0, 1, 2] S_
  dot_S8x4x64x1024_S4x1024x64_S4x8x1024x1024_2_2_03_1_1_0_wf : DotDims.WF S8x4x64x1024 S4x1024x64 S4x8x1024x1024 [2] [2] [0, 3] [1] [1] [0]

variable [Facts]

def dot_S8x4x64x1024_S4x1024x64_S4x8x1024x1024_2_2_03_1_1_0 : DotDims S8x4x64x1024 S4x1024x64 S4x8x1024x1024 where
  lhsContracting := [2]
  rhsContracting := [2]
  lhsNonContracting := [0, 3]
  rhsNonContracting := [1]
  lhsBatch := [1]
  rhsBatch := [0]
  wf := dot_S8x4x64x1024_S4x1024x64_S4x8x1024x1024_2_2_03_1_1_0_wf
def fn_part1 {F : FTy → Type} [FloatOps F] (main_arg1 : FVec F S4x1024x64 .f32) (main_v8 : IVec S_ 1) (main_v16 : FVec F S8x4x1024x1024 .f32) (main_v17 : FVec F S8x4x1024x1024 .f32) : IVec S_ 1 :=
  let main_v18 : FVec F S8x4x1024x1024 .f32 := subf main_v17 main_v16
  let main_v19 : FVec F S4x1024x64 .f32 := mulf main_arg1 main_arg1
  let main_cst_4 : FVec F S_ .f32 := constant S_ .f32 0x00000000#32
  let main_v20 : FVec F S4x1024 .f32 := (fun x v => Host.reduceAdd x v reducesTo_S4x1024x64_S4x1024_d2 h_S_) main_v19 main_cst_4
  let main_v21 : FVec F S1x4x1024x1 .f32 := broadcastInDim S1x4x1024x1 ![1, 2] bcast_S4x1024_S1x4x1024x1_1_2 main_v20
  let main_v22 : FVec F S8x4x1024x1024 .f32 := broadcastInDim S8x4x1024x1024 ![0, 1, 2, 3] bcast_S1x4x1024x1_S8x4x1024x1024_0_1_2_3 main_v21
  let main_v23 : FVec F S8x4x1024x1024 .f32 := addf main_v18 main_v22
  let main_cst_5 : FVec F S_ .f32 := constant S_ .f32 0x7F800000#32
  let main_v24 : FVec F S8x4x1024 .f32 := (fun x v => Host.reduce FloatOps.minimumf x v reducesTo_S8x4x1024x1024_S8x4x1024_d2 h_S_) main_v23 main_cst_5
  let main_v25 : FVec F S8x4x1x1024 .f32 := broadcastInDim S8x4x1x1024 ![0, 1, 3] bcast_S8x4x1024_S8x4x1x1024_0_1_3 main_v24
  let main_v26 : FVec F S8x4x1024x1024 .f32 := broadcastInDim S8x4x1024x1024 ![0, 1, 2, 3] bcast_S8x4x1x1024_S8x4x1024x1024_0_1_2_3 main_v25
  let main_v27 : IVec S8x4x1024x1024 1 := cmpf .oeq main_v23 main_v26
  let main_v28 : IVec S8x4x1024x1024 32 := (extui 32 · natLt_1_32) main_v27
  let main_c_6 : IVec S_ 32 := constantI S_ 32 0#32
  let main_v29 : IVec S8x4x1024 32 := (fun x v => Host.reduce IntOp.addi x v reducesTo_S8x4x1024x1024_S8x4x1024_d2 h_S_) main_v28 main_c_6
  let main_c_7 : IVec S_ 32 := constantI S_ 32 1#32
  let main_v30 : IVec S8x4x1024 32 := broadcastInDim S8x4x1024 ![] bcast_S_S8x4x1024 main_c_7
  let main_v31 : IVec S8x4x1024 1 := cmpi .eq main_v29 main_v30
  let main_c_8 : IVec S_ 1 := constantI S_ 1 1#1
  let main_v32 : IVec S_ 1 := (fun x v => Host.reduce IntOp.andi x v reducesTo_S8x4x1024_S_d0_1_2 h_S_) main_v31 main_c_8
  let main_v33 : IVec S_ 1 := andi main_v8 main_v32
  main_v33

def fn {F : FTy → Type} [FloatOps F] (main_arg0 : FVec F S8x256x32x32 .f32) (main_arg1 : FVec F S4x1024x64 .f32) : IVec S_ 1 :=
  let main_v0 : FVec F S8x256x32x32 .f32 := Host.absf main_arg0
  let main_cst : FVec F S_ .f32 := constant S_ .f32 0x7F800000#32
  let main_v1 : FVec F S8x256x32x32 .f32 := broadcastInDim S8x256x32x32 ![] bcast_S_S8x256x32x32 main_cst
  let main_v2 : IVec S8x256x32x32 1 := cmpf .olt main_v0 main_v1
  let main_c : IVec S_ 1 := constantI S_ 1 1#1
  let main_v3 : IVec S_ 1 := (fun x v => Host.reduce IntOp.andi x v reducesTo_S8x256x32x32_S_d0_1_2_3 h_S_) main_v2 main_c
  let main_v4 : FVec F S4x1024x64 .f32 := Host.absf main_arg1
  let main_cst_0 : FVec F S_ .f32 := constant S_ .f32 0x7F800000#32
  let main_v5 : FVec F S4x1024x64 .f32 := broadcastInDim S4x1024x64 ![] bcast_S_S4x1024x64 main_cst_0
  let main_v6 : IVec S4x1024x64 1 := cmpf .olt main_v4 main_v5
  let main_c_1 : IVec S_ 1 := constantI S_ 1 1#1
  let main_v7 : IVec S_ 1 := (fun x v => Host.reduce IntOp.andi x v reducesTo_S4x1024x64_S_d0_1_2 h_S_) main_v6 main_c_1
  let main_v8 : IVec S_ 1 := andi main_v3 main_v7
  let main_v9 : FVec F S8x4x64x1024 .f32 := shapeCast S8x4x64x1024 main_arg0 shapeCasts_S8x256x32x32_S8x4x64x1024
  let main_v10 : FVec F S8x4x64x1024 .f32 := mulf main_v9 main_v9
  let main_cst_2 : FVec F S_ .f32 := constant S_ .f32 0x00000000#32
  let main_v11 : FVec F S8x4x1024 .f32 := (fun x v => Host.reduceAdd x v reducesTo_S8x4x64x1024_S8x4x1024_d2 h_S_) main_v10 main_cst_2
  let main_v12 : FVec F S8x4x1x1024 .f32 := broadcastInDim S8x4x1x1024 ![0, 1, 3] bcast_S8x4x1024_S8x4x1x1024_0_1_3 main_v11
  let main_v13 : FVec F S4x8x1024x1024 .f32 := (fun l r => Host.dotGeneral dot_S8x4x64x1024_S4x1024x64_S4x8x1024x1024_2_2_03_1_1_0 none l r) main_v9 main_arg1
  let main_v14 : FVec F S8x4x1024x1024 .f32 := (transpose S8x4x1024x1024 [1, 0, 3, 2] · transposes_S4x8x1024x1024_S8x4x1024x1024_1_0_3_2) main_v13
  let main_cst_3 : FVec F S_ .f32 := constant S_ .f32 0x40000000#32
  let main_v15 : FVec F S8x4x1024x1024 .f32 := broadcastInDim S8x4x1024x1024 ![] bcast_S_S8x4x1024x1024 main_cst_3
  let main_v16 : FVec F S8x4x1024x1024 .f32 := mulf main_v15 main_v14
  let main_v17 : FVec F S8x4x1024x1024 .f32 := broadcastInDim S8x4x1024x1024 ![0, 1, 2, 3] bcast_S8x4x1x1024_S8x4x1024x1024_0_1_2_3 main_v12
  fn_part1 (F := F) main_arg1 main_v8 main_v16 main_v17
-- ==== Kernel.lean ====
abbrev S8x256x32x32 : Shape := ⟨4, ![8, 256, 32, 32]⟩
abbrev S4x1024x64 : Shape := ⟨3, ![4, 1024, 64]⟩
abbrev S8x4x64x1024 : Shape := ⟨4, ![8, 4, 64, 1024]⟩
abbrev S_ : Shape := ⟨0, ![]⟩
abbrev S4x64x1024 : Shape := ⟨3, ![4, 64, 1024]⟩
abbrev S4x1x8x1024 : Shape := ⟨4, ![4, 1, 8, 1024]⟩
abbrev S4x1x128 : Shape := ⟨3, ![4, 1, 128]⟩
abbrev S4x8x1024 : Shape := ⟨3, ![4, 8, 1024]⟩
abbrev S8x4x1024 : Shape := ⟨3, ![8, 4, 1024]⟩
abbrev S8x4x32x32 : Shape := ⟨4, ![8, 4, 32, 32]⟩
abbrev S4x1x1 : Shape := ⟨3, ![4, 1, 1]⟩
abbrev S4 : Shape := ⟨1, ![4]⟩
abbrev S8x1x64x1024 : Shape := ⟨4, ![8, 1, 64, 1024]⟩
abbrev S1x1024x64 : Shape := ⟨3, ![1, 1024, 64]⟩
abbrev S1x64x1024 : Shape := ⟨3, ![1, 64, 1024]⟩
abbrev S1x1x8x1024 : Shape := ⟨4, ![1, 1, 8, 1024]⟩
abbrev S1x1x128 : Shape := ⟨3, ![1, 1, 128]⟩
abbrev S1024x64 : Shape := ⟨2, ![1024, 64]⟩
abbrev S64x1024 : Shape := ⟨2, ![64, 1024]⟩
abbrev S1024 : Shape := ⟨1, ![1024]⟩
abbrev S1024x1 : Shape := ⟨2, ![1024, 1]⟩
abbrev S1024x1024 : Shape := ⟨2, ![1024, 1024]⟩
abbrev S1x1x64x1024 : Shape := ⟨4, ![1, 1, 64, 1024]⟩
abbrev S1x1024 : Shape := ⟨2, ![1, 1024]⟩
abbrev S1x1x1x1024 : Shape := ⟨4, ![1, 1, 1, 1024]⟩
abbrev S1 : Shape := ⟨1, ![1]⟩
abbrev S1x1x1 : Shape := ⟨3, ![1, 1, 1]⟩
abbrev S1x1024x1 : Shape := ⟨3, ![1, 1024, 1]⟩
abbrev S128 : Shape := ⟨1, ![128]⟩

abbrev nBuf : Space → Nat
  | .hbm => 19
  | .vmem => 14
  | .smem => 0
  | _ => 0

abbrev bufTy : (tb : Table) → Fin (tcTables nBuf tb) → BufTy
  | .hbm, ⟨0, _⟩ => ⟨S8x256x32x32, .f32⟩
  | .hbm, ⟨1, _⟩ => ⟨S4x1024x64, .f32⟩
  | .hbm, ⟨2, _⟩ => ⟨S8x4x64x1024, .f32⟩
  | .hbm, ⟨3, _⟩ => ⟨S_, .f32⟩
  | .hbm, ⟨4, _⟩ => ⟨S4x1024x64, .f32⟩
  | .hbm, ⟨5, _⟩ => ⟨S4x1024x64, .f32⟩
  | .hbm, ⟨6, _⟩ => ⟨S4x64x1024, .f32⟩
  | .hbm, ⟨7, _⟩ => ⟨S8x4x64x1024, .f32⟩
  | .hbm, ⟨8, _⟩ => ⟨S4x1x8x1024, .i32⟩
  | .hbm, ⟨9, _⟩ => ⟨S4x1x128, .f32⟩
  | .hbm, ⟨10, _⟩ => ⟨S4x1x128, .f32⟩
  | .hbm, ⟨11, _⟩ => ⟨S8x256x32x32, .f32⟩
  | .hbm, ⟨12, _⟩ => ⟨S4x8x1024, .i32⟩
  | .hbm, ⟨13, _⟩ => ⟨S8x4x1024, .i32⟩
  | .hbm, ⟨14, _⟩ => ⟨S8x4x32x32, .i32⟩
  | .hbm, ⟨15, _⟩ => ⟨S4x1x1, .f32⟩
  | .hbm, ⟨16, _⟩ => ⟨S4, .f32⟩
  | .hbm, ⟨17, _⟩ => ⟨S4x1x1, .f32⟩
  | .hbm, ⟨18, _⟩ => ⟨S4, .f32⟩
  | .local _ .vmem, ⟨0, _⟩ => ⟨S8x1x64x1024, .f32⟩
  | .local _ .vmem, ⟨1, _⟩ => ⟨S8x1x64x1024, .f32⟩
  | .local _ .vmem, ⟨2, _⟩ => ⟨S1x1024x64, .f32⟩
  | .local _ .vmem, ⟨3, _⟩ => ⟨S1x1024x64, .f32⟩
  | .local _ .vmem, ⟨4, _⟩ => ⟨S1x64x1024, .f32⟩
  | .local _ .vmem, ⟨5, _⟩ => ⟨S1x64x1024, .f32⟩
  | .local _ .vmem, ⟨6, _⟩ => ⟨S8x1x64x1024, .f32⟩
  | .local _ .vmem, ⟨7, _⟩ => ⟨S8x1x64x1024, .f32⟩
  | .local _ .vmem, ⟨8, _⟩ => ⟨S1x1x8x1024, .i32⟩
  | .local _ .vmem, ⟨9, _⟩ => ⟨S1x1x8x1024, .i32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_call0_v4_1 : Ref sig .tc := ⟨.hbm, 8, rfl⟩
abbrev main_call0_v4_2 : Ref sig .tc := ⟨.hbm, 9, rfl⟩
abbrev main_call0_v4_3 : Ref sig .tc := ⟨.hbm, 10, rfl⟩
abbrev main_v0_0 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_call0_v9 : Ref sig .tc := ⟨.hbm, 15, rfl⟩
abbrev main_v0_2 : Ref sig .tc := ⟨.hbm, 16, rfl⟩
abbrev main_call0_v11 : Ref sig .tc := ⟨.hbm, 17, rfl⟩
abbrev main_v0_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x256x32x32 : Shape := ⟨4, ![8, 256, 32, 32]⟩
abbrev S4x1024x64 : Shape := ⟨3, ![4, 1024, 64]⟩
abbrev S8x4x64x32x32 : Shape := ⟨5, ![8, 4, 64, 32, 32]⟩
abbrev S4x8x32x32x64 : Shape := ⟨5, ![4, 8, 32, 32, 64]⟩
abbrev S4x8192x64 : Shape := ⟨3, ![4, 8192, 64]⟩
abbrev S_ : Shape := ⟨0, ![]⟩
abbrev S4x8192 : Shape := ⟨2, ![4, 8192]⟩
abbrev S4x8192x1 : Shape := ⟨3, ![4, 8192, 1]⟩
abbrev S4x64x1024 : Shape := ⟨3, ![4, 64, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S1 : Shape := ⟨1, ![1]⟩
abbrev S1x1x1 : Shape := ⟨3, ![1, 1, 1]⟩
abbrev S4 : Shape := ⟨1, ![4]⟩
abbrev S1x1024 : Shape := ⟨2, ![1, 1024]⟩
abbrev S1x1x1024 : Shape := ⟨3, ![1, 1, 1024]⟩
abbrev S4x8x64x32x32 : Shape := ⟨5, ![4, 8, 64, 32, 32]⟩
abbrev S4x8x32x32 : Shape := ⟨4, ![4, 8, 32, 32]⟩
abbrev S4x1 : Shape := ⟨2, ![4, 1]⟩
abbrev S8x4x32x32 : Shape := ⟨4, ![8, 4, 32, 32]⟩

abbrev nBuf : Space → Nat
  | .hbm => 99
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S4x1024x64, .f32⟩
  | .hbm, ⟨2, _⟩ => ⟨S8x4x64x32x32, .f32⟩
  | .hbm, ⟨3, _⟩ => ⟨S4x8x32x32x64, .f32⟩
  | .hbm, ⟨4, _⟩ => ⟨S4x8192x64, .f32⟩
  | .hbm, ⟨5, _⟩ => ⟨S4x8192x64, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x64, .f32⟩
  | .hbm, ⟨11, _⟩ => ⟨S4x8192x64, .f32⟩
  | .hbm, ⟨12, _⟩ => ⟨S4x64x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x1024x64, .f32⟩
  | .hbm, ⟨17, _⟩ => ⟨S_, .f32⟩
  | .hbm, ⟨18, _⟩ => ⟨S4x1024, .f32⟩
  | .hbm, ⟨19, _⟩ => ⟨S4x1x1024, .f32⟩
  | .hbm, ⟨20, _⟩ => ⟨S4x8192x1024, .f32⟩
  | .hbm, ⟨21, _⟩ => ⟨S4x8192x1024, .f32⟩
  | .hbm, ⟨22, _⟩ => ⟨S4x8192x1024, .i32⟩
  | .hbm, ⟨23, _⟩ => ⟨S_, .f32⟩
  | .hbm, ⟨24, _⟩ => ⟨S_, .i32⟩
  | .hbm, ⟨25, _⟩ => ⟨S4x8192, .f32⟩
  | .hbm, ⟨26, _⟩ => ⟨S4x8192, .i32⟩
  | .hbm, ⟨27, _⟩ => ⟨S_, .i32⟩
  | .hbm, ⟨28, _⟩ => ⟨S4x8192, .i32⟩
  | .hbm, ⟨29, _⟩ => ⟨S4x8192, .i1⟩
  | .hbm, ⟨30, _⟩ => ⟨S_, .i32⟩
  | .hbm, ⟨31, _⟩ => ⟨S4x8192, .i32⟩
  | .hbm, ⟨32, _⟩ => ⟨S4x8192, .i32⟩
  | .hbm, ⟨33, _⟩ => ⟨S4x8192, .i32⟩
  | .hbm, ⟨34, _⟩ => ⟨S4x8192x1, .i32⟩
  | .hbm, ⟨35, _⟩ => ⟨S1, .i32⟩
  | .hbm, ⟨36, _⟩ => ⟨S_, .i32⟩
  | .hbm, ⟨37, _⟩ => ⟨S4x8192x1, .i32⟩
  | .hbm, ⟨38, _⟩ => ⟨S4x8192x1, .i1⟩
  | .hbm, ⟨39, _⟩ => ⟨S1x1x1, .i32⟩
  | .hbm, ⟨40, _⟩ => ⟨S4x8192x1, .i32⟩
  | .hbm, ⟨41, _⟩ => ⟨S4x8192x1, .i1⟩
  | .hbm, ⟨42, _⟩ => ⟨S4x8192x1, .i1⟩
  | .hbm, ⟨43, _⟩ => ⟨S_, .i1⟩
  | .hbm, ⟨44, _⟩ => ⟨S4x8192, .i1⟩
  | .hbm, ⟨45, _⟩ => ⟨S4x8192x64, .f32⟩
  | .hbm, ⟨46, _⟩ => ⟨S4x8192x64, .i1⟩
  | .hbm, ⟨47, _⟩ => ⟨S_, .f32⟩
  | .hbm, ⟨48, _⟩ => ⟨S4x8192x64, .f32⟩
  | .hbm, ⟨49, _⟩ => ⟨S4x8192x64, .f32⟩
  | .hbm, ⟨50, _⟩ => ⟨S4x8x32x32x64, .f32⟩
  | .hbm, ⟨51, _⟩ => ⟨S4x8x32x32x64, .f32⟩
  | .hbm, ⟨52, _⟩ => ⟨S4x8x32x32x64, .f32⟩
  | .hbm, ⟨53, _⟩ => ⟨S_, .f32⟩
  | .hbm, ⟨54, _⟩ => ⟨S4, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4x8x32x32x64, .f32⟩
  | .hbm, ⟨59, _⟩ => ⟨S4x8x32x32x64, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x8x32x32x64, .f32⟩
  | .hbm, ⟨70, _⟩ => ⟨S4x8x32x32x64, .f32⟩
  | .hbm, ⟨71, _⟩ => ⟨S4x8192x1, .i32⟩
  | .hbm, ⟨72, _⟩ => ⟨S1x1024, .i32⟩
  | .hbm, ⟨73, _⟩ => ⟨S1x1x1024, .i32⟩
  | .hbm, ⟨74, _⟩ => ⟨S4x8192x1024, .i32⟩
  | .hbm, ⟨75, _⟩ => ⟨S4x8192x1024, .i32⟩
  | .hbm, ⟨76, _⟩ => ⟨S4x8192x1024, .i1⟩
  | .hbm, ⟨77, _⟩ => ⟨S4x8192x1024, .f32⟩
  | .hbm, ⟨78, _⟩ => ⟨S_, .f32⟩
  | .hbm, ⟨79, _⟩ => ⟨S4x1024, .f32⟩
  | .hbm, ⟨80, _⟩ => ⟨S_, .f32⟩
  | .hbm, ⟨81, _⟩ => ⟨S4x1024, .f32⟩
  | .hbm, ⟨82, _⟩ => ⟨S4x1024, .f32⟩
  | .hbm, ⟨83, _⟩ => ⟨S_, .f32⟩
  | .hbm, ⟨84, _⟩ => ⟨S4x1024, .f32⟩
  | .hbm, ⟨85, _⟩ => ⟨S4x1024, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4x8x64x32x32, .f32⟩
  | .hbm, ⟨93, _⟩ => ⟨S4x8x32x32, .i32⟩
  | .hbm, ⟨94, _⟩ => ⟨S4x1, .f32⟩
  | .hbm, ⟨95, _⟩ => ⟨S8x4x64x32x32, .f32⟩
  | .hbm, ⟨96, _⟩ => ⟨S8x4x32x32, .i32⟩
  | .hbm, ⟨97, _⟩ => ⟨S8x256x32x32, .f32⟩
  | .hbm, ⟨98, _⟩ => ⟨S4, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_cst_3 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_v35 : Ref sig .tc := ⟨.hbm, 77, rfl⟩
abbrev main_cst_7 : Ref sig .tc := ⟨.hbm, 78, rfl⟩
abbrev main_v36 : Ref sig .tc := ⟨.hbm, 79, rfl⟩
abbrev main_cst_8 : Ref sig .tc := ⟨.hbm, 80, rfl⟩
abbrev main_v37 : Ref sig .tc := ⟨.hbm, 81, rfl⟩
abbrev main_v38 : Ref sig .tc := ⟨.hbm, 82, rfl⟩
abbrev main_cst_9 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_10 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩

abbrev nD : Nat := 1
abbrev τ : Topo := Topo.v7x

variable {F : FTy → Type} [FloatOps F]
-- ==== Proof.RefRun.lean ====
/-
  The reference's run. Its host operations are listed in stages (distances, nearest codewords, rows taken,
  losses, use of the codewords, layout); each stage is read as a function of the buffers it starts from, and the
  run's four results are the composition.
-/
module

public import proofs.«01_k».proof.Proof.Gen.ReferenceIdeal
public import Idealize.ShloMosaic.Lib.StableHlo.Run
public import Idealize.ShloMosaic.Lib.Pipeline.Frame

@[expose] public section

set_option Elab.async false

noncomputable section

namespace VQ.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of arrays -/

/-- The vectors to quantise, by layer, image, row, column and channel of the layer. -/
def vecs (x : FVec F S8x256x32x32 .f32) : FVec F S4x8x32x32x64 .f32 :=
  transpose S4x8x32x32x64 [1, 0, 3, 4, 2] (shapeCast S8x4x64x32x32 x shapeCasts_S8x256x32x32_S8x4x64x32x32) transposes_S8x4x64x32x32_S4x8x32x32x64_1_0_3_4_2

/-- The distance table, by layer, vector and codeword, from the flat vectors and the codebooks. -/
def dists (z : FVec F S4x8x32x32x64 .f32) (c : FVec F S4x1024x64 .f32) : FVec F S4x8192x1024 .f32 :=
  let flat : FVec F S4x8192x64 .f32 := shapeCast S4x8192x64 z shapeCasts_S4x8x32x32x64_S4x8192x64
  addf
    (subf
      (broadcastInDim S4x8192x1024 ![0, 1, 2] bcast_S4x8192x1_S4x8192x1024_0_1_2
        (broadcastInDim S4x8192x1 ![0, 1] bcast_S4x8192_S4x8192x1_0_1
          (Host.reduceAdd (mulf flat flat) (constant S_ .f32 0x00000000#32) reducesTo_S4x8192x64_S4x8192_d2 h_S_)))
      (Host.dotGeneral dot_S4x8192x64_S4x64x1024_S4x8192x1024_2_1_1_2_0_0 none
        (mulf (broadcastInDim S4x8192x64 ![] bcast_S_S4x8192x64 (constant S_ .f32 0x40000000#32)) flat)
        (transpose S4x64x1024 [0, 2, 1] c transposes_S4x1024x64_S4x64x1024_0_2_1)))
    (broadcastInDim S4x8192x1024 ![0, 1, 2] bcast_S4x1x1024_S4x8192x1024_0_1_2
      (broadcastInDim S4x1x1024 ![0, 2] bcast_S4x1024_S4x1x1024_0_2
        (Host.reduceAdd (mulf c c) (constant S_ .f32 0x00000000#32) reducesTo_S4x1024x64_S4x1024_d2 h_S_)))

/-- The index of each vector's nearest codeword. -/
def nearest (D : FVec F S4x8192x1024 .f32) : IVec S4x8192 32 := fun j =>
  (Host.argReduce reducer_argmin_f32_i32 D (iotaInDim S4x8192x1024 32 2) (constant S_ .f32 0x7F800000#32)
    (constantI S_ 32 0#32) reducesTo_S4x8192x1024_S4x8192_d2 h_S_ j).2

/-- An index below zero moved up by the codebook's size, as one column of start positions. -/
def starts (I : IVec S4x8192 32) : IVec S4x8192x1 32 :=
  broadcastInDim S4x8192x1 ![0, 1] bcast_S4x8192_S4x8192x1_0_1
    (select (cmpi .slt I (broadcastInDim S4x8192 ![] bcast_S_S4x8192 (constantI S_ 32 0#32)))
      (addi I (broadcastInDim S4x8192 ![] bcast_S_S4x8192 (constantI S_ 32 1024#32))) I)

/-- Where a start position lies inside the codebook. -/
def inside (s : IVec S4x8192x1 32) : IVec S4x8192 1 :=
  Host.reduce IntOp.andi
    (andi (cmpi .sge s (broadcastInDim S4x8192x1 ![] bcast_S_S4x8192x1 (constantI S_ 32 0#32)))
      (cmpi .sle s (broadcastInDim S4x8192x1 ![0, 1, 2] bcast_S1x1x1_S4x8192x1_0_1_2
        (broadcastInDim S1x1x1 ![2] bcast_S1_S1x1x1_2 (constantI S1 32 1023#32)))))
    (constantI S_ 1 1#1) reducesTo_S4x8192x1_S4x8192_d2 h_S_

/-- The codewords at the given indices. -/
def taken (c : FVec F S4x1024x64 .f32) (I : IVec S4x8192 32) : FVec F S4x8192x64 .f32 :=
  select (broadcastInDim S4x8192x64 ![0, 1] bcast_S4x8192_S4x8192x64_0_1 (inside (starts I)))
    (Host.gather gather_S4x1024x64_S4x8192x1_S4x8192x64_2_1_0_0_1_2_1164 c (starts I))
    (broadcastInDim S4x8192x64 ![] bcast_S_S4x8192x64 (constant S_ .f32 0x7FC00000#32))

/-- The taken codewords, laid out as the vectors are. -/
def rows (t : FVec F S4x8192x64 .f32) : FVec F S4x8x32x32x64 .f32 :=
  shapeCast S4x8x32x32x64 t shapeCasts_S4x8192x64_S4x8x32x32x64

/-- The mean over a layer of the squared difference of two arrays. -/
def meanSq (q z : FVec F S4x8x32x32x64 .f32) : FVec F S4 .f32 :=
  Host.divf (Host.reduceAdd (mulf (subf q z) (subf q z)) (constant S_ .f32 0x00000000#32) reducesTo_S4x8x32x32x64_S4_d1_2_3_4 h_S_)
    (broadcastInDim S4 ![] bcast_S_S4 (constant S_ .f32 0x49000000#32))

/-- The losses: the codebook term and a quarter of the commitment term. -/
def losses (q z : FVec F S4x8x32x32x64 .f32) : FVec F S4 .f32 :=
  addf (meanSq q z) (mulf (broadcastInDim S4 ![] bcast_S_S4 (constant S_ .f32 0x3E800000#32)) (meanSq q z))

/-- The one-hot rows of the indices. -/
def hot (I : IVec S4x8192 32) : FVec F S4x8192x1024 .f32 :=
  uitofp .f32
    (cmpi .eq
      (broadcastInDim S4x8192x1024 ![0, 1, 2] bcast_S4x8192x1_S4x8192x1024_0_1_2
        (broadcastInDim S4x8192x1 ![0, 1] bcast_S4x8192_S4x8192x1_0_1 I))
      (broadcastInDim S4x8192x1024 ![0, 1, 2] bcast_S1x1x1024_S4x8192x1024_0_1_2
        (broadcastInDim S1x1x1024 ![1, 2] bcast_S1x1024_S1x1x1024_1_2 (iotaInDim S1x1024 32 1))))

/-- The codewords' frequencies. -/
def freq (I : IVec S4x8192 32) : FVec F S4x1024 .f32 :=
  Host.divf (Host.reduceAdd (hot I) (constant S_ .f32 0x00000000#32) reducesTo_S4x8192x1024_S4x1024_d1 h_S_)
    (broadcastInDim S4x1024 ![] bcast_S_S4x1024 (constant S_ .f32 0x46000000#32))

/-- The perplexities from the frequencies. -/
def perplexity (p : FVec F S4x1024 .f32) : FVec F S4 .f32 :=
  Host.exp (Host.negf (Host.reduceAdd
    (mulf p (Host.log (addf p (broadcastInDim S4x1024 ![] bcast_S_S4x1024 (constant S_ .f32 0x2EDBE6FF#32)))))
    (constant S_ .f32 0x00000000#32) reducesTo_S4x1024_S4_d1 h_S_))

/-- The quantised vectors, in the arguments' layout. -/
def layRows (r : FVec F S4x8x32x32x64 .f32) : FVec F S8x256x32x32 .f32 :=
  shapeCast S8x256x32x32
    (transpose S8x4x64x32x32 [1, 0, 2, 3, 4]
      (transpose S4x8x64x32x32 [0, 1, 4, 2, 3] r transposes_S4x8x32x32x64_S4x8x64x32x32_0_1_4_2_3)
      transposes_S4x8x64x32x32_S8x4x64x32x32_1_0_2_3_4)
    shapeCasts_S8x4x64x32x32_S8x256x32x32

/-- The indices, in the results' layout. -/
def layIdx (I : IVec S4x8192 32) : IVec S8x4x32x32 32 :=
  transpose S8x4x32x32 [1, 0, 2, 3] (shapeCast S4x8x32x32 I shapeCasts_S4x8192_S4x8x32x32) transposes_S4x8x32x32_S8x4x32x32_1_0_2_3

/-- The losses, in the results' layout. -/
def layLoss (l : FVec F S4 .f32) : FVec F S4 .f32 :=
  shapeCast S4 (broadcastInDim S4x1 ![0] bcast_S4_S4x1_0 l) shapeCasts_S4x1_S4

/-! ## The operations in stages -/

/-- Operations 1 to 20 of the reference: the distance table. -/
abbrev distOps : List (HloOp τ sig (Elt F)) :=
  [ reshape main_arg0 main_v0 rfl shapeCasts_S8x256x32x32_S8x4x64x32x32,
    unary main_v0 main_v1 (transpose S4x8x32x32x64 [1, 0, 3, 4, 2] · transposes_S8x4x64x32x32_S4x8x32x32x64_1_0_3_4_2),
    reshape main_v1 main_v2 rfl shapeCasts_S4x8x32x32x64_S4x8192x64,
    binary main_v2 main_v2 main_v3 mulf,
    nullary main_cst (constant S_ .f32 0x00000000#32),
    binary main_v3 main_cst main_v4 (fun x v => Host.reduceAdd x v reducesTo_S4x8192x64_S4x8192_d2 h_S_),
    unary main_v4 main_v5 (broadcastInDim S4x8192x1 ![0, 1] bcast_S4x8192_S4x8192x1_0_1),
    nullary main_cst_0 (constant S_ .f32 0x40000000#32),
    unary main_cst_0 main_v6 (broadcastInDim S4x8192x64 ![] bcast_S_S4x8192x64),
    binary main_v6 main_v2 main_v7 mulf,
    unary main_arg1 main_v8 (transpose S4x64x1024 [0, 2, 1] · transposes_S4x1024x64_S4x64x1024_0_2_1),
    binary main_v7 main_v8 main_v9 (fun l r => Host.dotGeneral dot_S4x8192x64_S4x64x1024_S4x8192x1024_2_1_1_2_0_0 none l r),
    unary main_v5 main_v10 (broadcastInDim S4x8192x1024 ![0, 1, 2] bcast_S4x8192x1_S4x8192x1024_0_1_2),
    binary main_v10 main_v9 main_v11 subf,
    binary main_arg1 main_arg1 main_v12 mulf,
    nullary main_cst_1 (constant S_ .f32 0x00000000#32),
    binary main_v12 main_cst_1 main_v13 (fun x v => Host.reduceAdd x v reducesTo_S4x1024x64_S4x1024_d2 h_S_),
    unary main_v13 main_v14 (broadcastInDim S4x1x1024 ![0, 2] bcast_S4x1024_S4x1x1024_0_2),
    unary main_v14 main_v15 (broadcastInDim S4x8192x1024 ![0, 1, 2] bcast_S4x1x1024_S4x8192x1024_0_1_2),
    binary main_v11 main_v15 main_v16 addf ]

/-- Operations 21 to 25 of the reference: the nearest codewords. -/
abbrev nearOps : List (HloOp τ sig (Elt F)) :=
  [ TRef.nullary main_call0.v0 (iotaInDim S4x8192x1024 32 2),
    TRef.nullary main_call0.cst (constant S_ .f32 0x7F800000#32),
    TRef.nullary main_call0.c (constantI S_ 32 0#32),
    TRef.quaternary (.of (T := ⟨S4x8192x1024, .f32⟩) main_v16) main_call0.v0 main_call0.cst main_call0.c main_call0.v1_0 (fun x y u v j => (Host.argReduce reducer_argmin_f32_i32 x y u v reducesTo_S4x8192x1024_S4x8192_d2 h_S_ j).1),
    TRef.quaternary (.of (T := ⟨S4x8192x1024, .f32⟩) main_v16) main_call0.v0 main_call0.cst main_call0.c main_call0.v1_1 (fun x y u v j => (Host.argReduce reducer_argmin_f32_i32 x y u v reducesTo_S4x8192x1024_S4x8192_d2 h_S_ j).2) ]

/-- Operations 26 to 48 of the reference: the rows taken from the codebooks. -/
abbrev takeOps : List (HloOp τ sig (Elt F)) :=
  [ TRef.nullary main_call1.c (constantI S_ 32 0#32),
    TRef.unary main_call1.c main_call1.v0 (broadcastInDim S4x8192 ![] bcast_S_S4x8192),
    TRef.binary (.of (T := ⟨S4x8192, .i32⟩) main_v17) main_call1.v0 main_call1.v1 (cmpi .slt),
    TRef.nullary main_call1.c_0 (constantI S_ 32 1024#32),
    TRef.unary main_call1.c_0 main_call1.v2 (broadcastInDim S4x8192 ![] bcast_S_S4x8192),
    TRef.binary (.of (T := ⟨S4x8192, .i32⟩) main_v17) main_call1.v2 main_call1.v3 addi,
    TRef.ternary main_call1.v1 main_call1.v3 (.of (T := ⟨S4x8192, .i32⟩) main_v17) main_call1.call0.v0 select,
    TRef.unary main_call1.call0.v0 main_call1.v5 (broadcastInDim S4x8192x1 ![0, 1] bcast_S4x8192_S4x8192x1_0_1),
    TRef.nullary main_call1.c_1 (constantI S1 32 1023#32),
    TRef.nullary main_call1.c_2 (constantI S_ 32 0#32),
    TRef.unary main_call1.c_2 main_call1.v6 (broadcastInDim S4x8192x1 ![] bcast_S_S4x8192x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4x8192x1 ![0, 1, 2] bcast_S1x1x1_S4x8192x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x8192x1_S4x8192_d2 h_S_),
    TRef.binary (.of (T := ⟨S4x1024x64, .f32⟩) main_arg1) main_call1.v5 main_call1.v13 (fun x i => Host.gather gather_S4x1024x64_S4x8192x1_S4x8192x64_2_1_0_0_1_2_1164 x i),
    TRef.unary main_call1.v12 main_call1.v14 (broadcastInDim S4x8192x64 ![0, 1] bcast_S4x8192_S4x8192x64_0_1),
    TRef.nullary main_call1.cst (constant S_ .f32 0x7FC00000#32),
    TRef.unary main_call1.cst main_call1.v15 (broadcastInDim S4x8192x64 ![] bcast_S_S4x8192x64),
    TRef.ternary main_call1.v14 main_call1.v13 main_call1.v15 main_call1.v16 select ]

/-- Operations 49 to 69 of the reference: the losses and the straight-through rows. -/
abbrev lossOps : List (HloOp τ sig (Elt F)) :=
  [ reshape main_v18 main_v19 rfl shapeCasts_S4x8192x64_S4x8x32x32x64,
    binary main_v19 main_v1 main_v20 subf,
    binary main_v20 main_v20 main_v21 mulf,
    nullary main_cst_2 (constant S_ .f32 0x00000000#32),
    binary main_v21 main_cst_2 main_v22 (fun x v => Host.reduceAdd x v reducesTo_S4x8x32x32x64_S4_d1_2_3_4 h_S_),
    nullary main_cst_3 (constant S_ .f32 0x49000000#32),
    unary main_cst_3 main_v23 (broadcastInDim S4 ![] bcast_S_S4),
    binary main_v22 main_v23 main_v24 Host.divf,
    binary main_v19 main_v1 main_v25 subf,
    binary main_v25 main_v25 main_v26 mulf,
    nullary main_cst_4 (constant S_ .f32 0x00000000#32),
    binary main_v26 main_cst_4 main_v27 (fun x v => Host.reduceAdd x v reducesTo_S4x8x32x32x64_S4_d1_2_3_4 h_S_),
    nullary main_cst_5 (constant S_ .f32 0x49000000#32),
    unary main_cst_5 main_v28 (broadcastInDim S4 ![] bcast_S_S4),
    binary main_v27 main_v28 main_v29 Host.divf,
    nullary main_cst_6 (constant S_ .f32 0x3E800000#32),
    unary main_cst_6 main_v30 (broadcastInDim S4 ![] bcast_S_S4),
    binary main_v30 main_v24 main_v31 mulf,
    binary main_v29 main_v31 main_v32 addf,
    binary main_v19 main_v1 main_v33 subf,
    binary main_v1 main_v33 main_v34 addf ]

/-- Operations 70 to 90 of the reference: the codewords' use and the perplexities. -/
abbrev useOps : List (HloOp τ sig (Elt F)) :=
  [ TRef.unary (.of (T := ⟨S4x8192, .i32⟩) main_v17) main_call2.v0 (broadcastInDim S4x8192x1 ![0, 1] bcast_S4x8192_S4x8192x1_0_1),
    TRef.nullary main_call2.v1 (iotaInDim S1x1024 32 1),
    TRef.unary main_call2.v1 main_call2.v2 (broadcastInDim S1x1x1024 ![1, 2] bcast_S1x1024_S1x1x1024_1_2),
    TRef.unary main_call2.v0 main_call2.v3 (broadcastInDim S4x8192x1024 ![0, 1, 2] bcast_S4x8192x1_S4x8192x1024_0_1_2),
    TRef.unary main_call2.v2 main_call2.v4 (broadcastInDim S4x8192x1024 ![0, 1, 2] bcast_S1x1x1024_S4x8192x1024_0_1_2),
    TRef.binary main_call2.v3 main_call2.v4 main_call2.v5 (cmpi .eq),
    TRef.unary main_call2.v5 main_call2.v6 (uitofp .f32),
    nullary main_cst_7 (constant S_ .f32 0x00000000#32),
    binary main_v35 main_cst_7 main_v36 (fun x v => Host.reduceAdd x v reducesTo_S4x8192x1024_S4x1024_d1 h_S_),
    nullary main_cst_8 (constant S_ .f32 0x46000000#32),
    unary main_cst_8 main_v37 (broadcastInDim S4x1024 ![] bcast_S_S4x1024),
    binary main_v36 main_v37 main_v38 Host.divf,
    nullary main_cst_9 (constant S_ .f32 0x2EDBE6FF#32),
    unary main_cst_9 main_v39 (broadcastInDim S4x1024 ![] bcast_S_S4x1024),
    binary main_v38 main_v39 main_v40 addf,
    unary main_v40 main_v41 Host.log,
    binary main_v38 main_v41 main_v42 mulf,
    nullary main_cst_10 (constant S_ .f32 0x00000000#32),
    binary main_v42 main_cst_10 main_v43 (fun x v => Host.reduceAdd x v reducesTo_S4x1024_S4_d1 h_S_),
    unary main_v43 main_v44 Host.negf,
    unary main_v44 main_v45 Host.exp ]

/-- Operations 91 to 92 of the reference: the results laid out, first half. -/
abbrev layOps : List (HloOp τ sig (Elt F)) :=
  [ unary main_v34 main_v46 (transpose S4x8x64x32x32 [0, 1, 4, 2, 3] · transposes_S4x8x32x32x64_S4x8x64x32x32_0_1_4_2_3),
    reshape main_v17 main_v47 rfl shapeCasts_S4x8192_S4x8x32x32 ]

/-- Operations 93 to 97 of the reference: the results laid out, second half. -/
abbrev layOps2 : List (HloOp τ sig (Elt F)) :=
  [ unary main_v32 main_v48 (broadcastInDim S4x1 ![0] bcast_S4_S4x1_0),
    unary main_v46 main_v49 (transpose S8x4x64x32x32 [1, 0, 2, 3, 4] · transposes_S4x8x64x32x32_S8x4x64x32x32_1_0_2_3_4),
    unary main_v47 main_v50 (transpose S8x4x32x32 [1, 0, 2, 3] · transposes_S4x8x32x32_S8x4x32x32_1_0_2_3),
    reshape main_v49 main_v51 rfl shapeCasts_S8x4x64x32x32_S8x256x32x32,
    reshape main_v48 main_v52 rfl shapeCasts_S4x1_S4 ]

set_option maxRecDepth 16384 in
set_option maxHeartbeats 2000000 in
/-- What `distOps` leaves in `main_v1`. -/
theorem distOps_main_v1 (V : Valuation τ sig (Elt F)) :
    after distOps V (no_index (Proc.devRef .tc main_v1)) = vecs (V (Proc.devRef .tc main_arg0)) := by
  after_results_simp
  rfl

set_option maxRecDepth 16384 in
set_option maxHeartbeats 2000000 in
/-- What `distOps` leaves in `main_v16`. -/
theorem distOps_main_v16 (V : Valuation τ sig (Elt F)) :
    after distOps V (no_index (Proc.devRef .tc main_v16)) = dists (vecs (V (Proc.devRef .tc main_arg0))) (V (Proc.devRef .tc main_arg1)) := by
  after_results_simp
  rfl

set_option maxRecDepth 16384 in
set_option maxHeartbeats 2000000 in
/-- What `nearOps` leaves in `main_v17`. -/
theorem nearOps_main_v17 (V : Valuation τ sig (Elt F)) :
    after nearOps V (no_index (Proc.devRef .tc main_v17)) = nearest (V (Proc.devRef .tc main_v16)) := by
  after_results_simp
  rfl

set_option maxRecDepth 16384 in
set_option maxHeartbeats 2000000 in
/-- What `takeOps` leaves in `main_v18`. -/
theorem takeOps_main_v18 (V : Valuation τ sig (Elt F)) :
    after takeOps V (no_index (Proc.devRef .tc main_v18)) = taken (V (Proc.devRef .tc main_arg1)) (V (Proc.devRef .tc main_v17)) := by
  simp only [takeOps, TRef.binary, TRef.nullary, TRef.ternary, TRef.unary, TRef.toBuf, TRef.ofBuf, cast_eq]
  after_results_simp
  rfl

set_option maxRecDepth 16384 in
set_option maxHeartbeats 2000000 in
/-- What `lossOps` leaves in `main_v32`. -/
theorem lossOps_main_v32 (V : Valuation τ sig (Elt F)) :
    after lossOps V (no_index (Proc.devRef .tc main_v32)) = losses (rows (V (Proc.devRef .tc main_v18))) (V (Proc.devRef .tc main_v1)) := by
  after_results_simp
  rfl

set_option maxRecDepth 16384 in
set_option maxHeartbeats 2000000 in
/-- What `lossOps` leaves in `main_v34`. -/
theorem lossOps_main_v34 (V : Valuation τ sig (Elt F)) :
    after lossOps V (no_index (Proc.devRef .tc main_v34)) = addf (V (Proc.devRef .tc main_v1)) (subf (rows (V (Proc.devRef .tc main_v18))) (V (Proc.devRef .tc main_v1))) := by
  after_results_simp
  rfl

set_option maxRecDepth 16384 in
set_option maxHeartbeats 2000000 in
/-- What `useOps` leaves in `main_v45`. -/
theorem useOps_main_v45 (V : Valuation τ sig (Elt F)) :
    after useOps V (no_index (Proc.devRef .tc main_v45)) = perplexity (freq (V (Proc.devRef .tc main_v17))) := by
  after_results_simp
  rfl

set_option maxRecDepth 16384 in
/-- `distOps` leaves `main_arg0` as it was. -/
theorem distOps_keep_main_arg0 (V : Valuation τ sig (Elt F)) :
    after distOps V (no_index (Proc.devRef .tc main_arg0)) = V (Proc.devRef .tc main_arg0) := by
  simp only [after_cons, after_nil]
  rfl
set_option maxRecDepth 16384 in
/-- `distOps` leaves `main_arg1` as it was. -/
theorem distOps_keep_main_arg1 (V : Valuation τ sig (Elt F)) :
    after distOps V (no_index (Proc.devRef .tc main_arg1)) = V (Proc.devRef .tc main_arg1) := by
  simp only [after_cons, after_nil]
  rfl
set_option maxRecDepth 16384 in
/-- `nearOps` leaves `main_arg0` as it was. -/
theorem nearOps_keep_main_arg0 (V : Valuation τ sig (Elt F)) :
    after nearOps V (no_index (Proc.devRef .tc main_arg0)) = V (Proc.devRef .tc main_arg0) := by
  simp only [after_cons, after_nil]
  rfl
set_option maxRecDepth 16384 in
/-- `nearOps` leaves `main_arg1` as it was. -/
theorem nearOps_keep_main_arg1 (V : Valuation τ sig (Elt F)) :
    after nearOps V (no_index (Proc.devRef .tc main_arg1)) = V (Proc.devRef .tc main_arg1) := by
  simp only [after_cons, after_nil]
  rfl
set_option maxRecDepth 16384 in
/-- `nearOps` leaves `main_v1` as it was. -/
theorem nearOps_keep_main_v1 (V : Valuation τ sig (Elt F)) :
    after nearOps V (no_index (Proc.devRef .tc main_v1)) = V (Proc.devRef .tc main_v1) := by
  simp only [after_cons, after_nil]
  rfl
set_option maxRecDepth 16384 in
/-- `takeOps` leaves `main_arg0` as it was. -/
theorem takeOps_keep_main_arg0 (V : Valuation τ sig (Elt F)) :
    after takeOps V (no_index (Proc.devRef .tc main_arg0)) = V (Proc.devRef .tc main_arg0) := by
  simp only [after_cons, after_nil]
  rfl
set_option maxRecDepth 16384 in
/-- `takeOps` leaves `main_arg1` as it was. -/
theorem takeOps_keep_main_arg1 (V : Valuation τ sig (Elt F)) :
    after takeOps V (no_index (Proc.devRef .tc main_arg1)) = V (Proc.devRef .tc main_arg1) := by
  simp only [after_cons, after_nil]
  rfl
set_option maxRecDepth 16384 in
/-- `takeOps` leaves `main_v1` as it was. -/
theorem takeOps_keep_main_v1 (V : Valuation τ sig (Elt F)) :
    after takeOps V (no_index (Proc.devRef .tc main_v1)) = V (Proc.devRef .tc main_v1) := by
  simp only [after_cons, after_nil]
  rfl
set_option maxRecDepth 16384 in
/-- `takeOps` leaves `main_v17` as it was. -/
theorem takeOps_keep_main_v17 (V : Valuation τ sig (Elt F)) :
    after takeOps V (no_index (Proc.devRef .tc main_v17)) = V (Proc.devRef .tc main_v17) := by
  simp only [after_cons, after_nil]
  rfl
set_option maxRecDepth 16384 in
/-- `lossOps` leaves `main_arg0` as it was. -/
theorem lossOps_keep_main_arg0 (V : Valuation τ sig (Elt F)) :
    after lossOps V (no_index (Proc.devRef .tc main_arg0)) = V (Proc.devRef .tc main_arg0) := by
  simp only [after_cons, after_nil]
  rfl
set_option maxRecDepth 16384 in
/-- `lossOps` leaves `main_arg1` as it was. -/
theorem lossOps_keep_main_arg1 (V : Valuation τ sig (Elt F)) :
    after lossOps V (no_index (Proc.devRef .tc main_arg1)) = V (Proc.devRef .tc main_arg1) := by
  simp only [after_cons, after_nil]
  rfl
set_option maxRecDepth 16384 in
/-- `lossOps` leaves `main_v17` as it was. -/
theorem lossOps_keep_main_v17 (V : Valuation τ sig (Elt F)) :
    after lossOps V (no_index (Proc.devRef .tc main_v17)) = V (Proc.devRef .tc main_v17) := by
  simp only [after_cons, after_nil]
  rfl
set_option maxRecDepth 16384 in
/-- `useOps` leaves `main_arg0` as it was. -/
theorem useOps_keep_main_arg0 (V : Valuation τ sig (Elt F)) :
    after useOps V (no_index (Proc.devRef .tc main_arg0)) = V (Proc.devRef .tc main_arg0) := by
  simp only [after_cons, after_nil]
  rfl
set_option maxRecDepth 16384 in
/-- `useOps` leaves `main_arg1` as it was. -/
theorem useOps_keep_main_arg1 (V : Valuation τ sig (Elt F)) :
    after useOps V (no_index (Proc.devRef .tc main_arg1)) = V (Proc.devRef .tc main_arg1) := by
  simp only [after_cons, after_nil]
  rfl
set_option maxRecDepth 16384 in
/-- `useOps` leaves `main_v17` as it was. -/
theorem useOps_keep_main_v17 (V : Valuation τ sig (Elt F)) :
    after useOps V (no_index (Proc.devRef .tc main_v17)) = V (Proc.devRef .tc main_v17) := by
  simp only [after_cons, after_nil]
  rfl
set_option maxRecDepth 16384 in
/-- `useOps` leaves `main_v32` as it was. -/
theorem useOps_keep_main_v32 (V : Valuation τ sig (Elt F)) :
    after useOps V (no_index (Proc.devRef .tc main_v32)) = V (Proc.devRef .tc main_v32) := by
  simp only [after_cons, after_nil]
  rfl
set_option maxRecDepth 16384 in
/-- `useOps` leaves `main_v34` as it was. -/
theorem useOps_keep_main_v34 (V : Valuation τ sig (Elt F)) :
    after useOps V (no_index (Proc.devRef .tc main_v34)) = V (Proc.devRef .tc main_v34) := by
  simp only [after_cons, after_nil]
  rfl

set_option maxRecDepth 16384 in
/-- The layout's operations at the four results and the two arguments. -/
theorem lay_results (V : Valuation τ sig (Elt F)) :
    after layOps2 (after layOps V) (no_index (Proc.devRef .tc main_v51)) = layRows (V (Proc.devRef .tc main_v34))
      ∧ after layOps2 (after layOps V) (no_index (Proc.devRef .tc main_v50)) = layIdx (V (Proc.devRef .tc main_v17))
      ∧ after layOps2 (after layOps V) (no_index (Proc.devRef .tc main_v52)) = layLoss (V (Proc.devRef .tc main_v32))
      ∧ after layOps2 (after layOps V) (no_index (Proc.devRef .tc main_v45)) = V (Proc.devRef .tc main_v45)
      ∧ after layOps2 (after layOps V) (no_index (Proc.devRef .tc main_arg0)) = V (Proc.devRef .tc main_arg0)
      ∧ after layOps2 (after layOps V) (no_index (Proc.devRef .tc main_arg1)) = V (Proc.devRef .tc main_arg1) := by
  refine ⟨?_, ?_, ?_, ?_, ?_, ?_⟩ <;> (after_results_simp <;> rfl)

/-- The host operations of the reference, in order. -/
abbrev ops : List (HloOp τ sig (Elt F)) :=
  (distOps ++ (nearOps ++ (takeOps ++ (lossOps ++ (useOps ++ layOps))))) ++ layOps2

set_option maxRecDepth 16384 in
set_option maxHeartbeats 4000000 in
/-- The first window of the reference is the first six stages. -/
theorem part0_eq (c : Dev nD) :
    main_part0 (F := F) c = seq (distOps ++ (nearOps ++ (takeOps ++ (lossOps ++ (useOps ++ layOps))))) := rfl

set_option maxRecDepth 16384 in
/-- The second window is the last stage. -/
theorem part1_eq (c : Dev nD) : main_part1 (F := F) c = seq layOps2 := rfl

/-- The reference is the stages in order. -/
theorem main_eq (c : Dev nD) : main (F := F) c = seq ops := by
  rw [ops, seq_append, ← part0_eq c, ← part1_eq c]
  rfl

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

set_option maxRecDepth 16384 in
/-- Every operation of `distOps` stays inside the TensorCore's buffers. -/
theorem distOps_sub : (distOps : List (HloOp τ sig (Elt F))).Forall fun op => op.bufs ⊆ tcRefs τ sig :=
  ⟨reshape_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩
set_option maxRecDepth 16384 in
/-- No operation of `distOps` asks for a fresh buffer. -/
theorem distOps_fresh : (distOps : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 16384 in
/-- Every operation of `nearOps` stays inside the TensorCore's buffers. -/
theorem nearOps_sub : (nearOps : List (HloOp τ sig (Elt F))).Forall fun op => op.bufs ⊆ tcRefs τ sig :=
  ⟨nullary_bufs_sub .., nullary_bufs_sub .., nullary_bufs_sub .., quaternary_bufs_sub .., quaternary_bufs_sub ..⟩
set_option maxRecDepth 16384 in
/-- No operation of `nearOps` asks for a fresh buffer. -/
theorem nearOps_fresh : (nearOps : List (HloOp τ sig (Elt F))).Forall fun op => op.fresh = ∅ :=
  ⟨rfl, rfl, rfl, rfl, rfl⟩

set_option maxRecDepth 16384 in
/-- Every operation of `takeOps` stays inside the TensorCore's buffers. -/
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 16384 in
/-- No operation of `takeOps` asks for a fresh buffer. -/
theorem takeOps_fresh : (takeOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 16384 in
/-- Every operation of `lossOps` stays inside the TensorCore's buffers. -/
theorem lossOps_sub : (lossOps : List (HloOp τ sig (Elt F))).Forall fun op => op.bufs ⊆ tcRefs τ sig :=
  ⟨reshape_bufs_sub .., binary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 16384 in
/-- No operation of `lossOps` asks for a fresh buffer. -/
theorem lossOps_fresh : (lossOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 16384 in
/-- Every operation of `useOps` stays inside the TensorCore's buffers. -/
theorem useOps_sub : (useOps : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩
set_option maxRecDepth 16384 in
/-- No operation of `useOps` asks for a fresh buffer. -/
theorem useOps_fresh : (useOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 16384 in
/-- Every operation of `layOps` stays inside the TensorCore's buffers. -/
theorem layOps_sub : (layOps : List (HloOp τ sig (Elt F))).Forall fun op => op.bufs ⊆ tcRefs τ sig :=
  ⟨unary_bufs_sub .., reshape_bufs_sub ..⟩
set_option maxRecDepth 16384 in
/-- No operation of `layOps` asks for a fresh buffer. -/
theorem layOps_fresh : (layOps : List (HloOp τ sig (Elt F))).Forall fun op => op.fresh = ∅ :=
  ⟨rfl, rfl⟩

set_option maxRecDepth 16384 in
/-- Every operation of `layOps2` stays inside the TensorCore's buffers. -/
theorem layOps2_sub : (layOps2 : List (HloOp τ sig (Elt F))).Forall fun op => op.bufs ⊆ tcRefs τ sig :=
  ⟨unary_bufs_sub .., unary_bufs_sub .., unary_bufs_sub .., reshape_bufs_sub .., reshape_bufs_sub ..⟩
set_option maxRecDepth 16384 in
/-- No operation of `layOps2` asks for a fresh buffer. -/
theorem layOps2_fresh : (layOps2 : List (HloOp τ sig (Elt F))).Forall fun op => op.fresh = ∅ :=
  ⟨rfl, rfl, rfl, rfl, rfl⟩

/-- A property of every operation of every stage is one of every operation. -/
theorem ops_all {p : HloOp τ sig (Elt F) → Prop} (h1 : (distOps : List (HloOp τ sig (Elt F))).Forall p)
    (h2 : (nearOps : List (HloOp τ sig (Elt F))).Forall p) (h3 : (takeOps : List (HloOp τ sig (Elt F))).Forall p)
    (h4 : (lossOps : List (HloOp τ sig (Elt F))).Forall p) (h5 : (useOps : List (HloOp τ sig (Elt F))).Forall p)
    (h6 : (layOps : List (HloOp τ sig (Elt F))).Forall p) (h7 : (layOps2 : List (HloOp τ sig (Elt F))).Forall p) :
    ∀ op ∈ (ops : List (HloOp τ sig (Elt F))), p op := fun op h => by
  rw [List.forall_iff_forall_mem] at h1 h2 h3 h4 h5 h6 h7
  simp only [ops, List.mem_append, or_assoc] at h
  rcases h with h | h | h | h | h | h | h
  exacts [h1 op h, h2 op h, h3 op h, h4 op h, h5 op h, h6 op h, h7 op h]

/-- Every operation stays inside the TensorCore's buffers. -/
theorem ops_sub : (ops : List (HloOp τ sig (Elt F))).Forall fun op => op.bufs ⊆ tcRefs τ sig :=
  List.forall_iff_forall_mem.mpr
    (ops_all distOps_sub nearOps_sub takeOps_sub lossOps_sub useOps_sub layOps_sub layOps2_sub)

/-- No operation asks for a fresh buffer. -/
theorem ops_fresh : ∀ op ∈ (ops : List (HloOp τ sig (Elt F))), op.fresh = ∅ :=
  ops_all distOps_fresh nearOps_fresh takeOps_fresh lossOps_fresh useOps_fresh layOps_fresh layOps2_fresh

/-! ## The run -/

/-- The nearest codewords, from the arguments. -/
def idx (x : FVec F S8x256x32x32 .f32) (c : FVec F S4x1024x64 .f32) : IVec S4x8192 32 := nearest (dists (vecs x) c)

/-- The chosen codewords laid out as the vectors are, from the arguments. -/
def quant (x : FVec F S8x256x32x32 .f32) (c : FVec F S4x1024x64 .f32) : FVec F S4x8x32x32x64 .f32 := rows (taken c (idx x c))

/-- All operations at the four results and the two arguments. -/
theorem after_ops (V : Valuation τ sig (Elt F)) :
    after ops V (Proc.devRef .tc main_v51)
        = layRows (addf (vecs (V (Proc.devRef .tc main_arg0)))
            (subf (quant (V (Proc.devRef .tc main_arg0)) (V (Proc.devRef .tc main_arg1))) (vecs (V (Proc.devRef .tc main_arg0)))))
      ∧ after ops V (Proc.devRef .tc main_v50) = layIdx (idx (V (Proc.devRef .tc main_arg0)) (V (Proc.devRef .tc main_arg1)))
      ∧ after ops V (Proc.devRef .tc main_v52)
        = layLoss (losses (quant (V (Proc.devRef .tc main_arg0)) (V (Proc.devRef .tc main_arg1))) (vecs (V (Proc.devRef .tc main_arg0))))
      ∧ after ops V (Proc.devRef .tc main_v45)
        = perplexity (freq (idx (V (Proc.devRef .tc main_arg0)) (V (Proc.devRef .tc main_arg1))))
      ∧ after ops V (Proc.devRef .tc main_arg0) = V (Proc.devRef .tc main_arg0)
      ∧ after ops V (Proc.devRef .tc main_arg1) = V (Proc.devRef .tc main_arg1) := by
  obtain ⟨h1, h2, h3, h4, h5, h6⟩ := lay_results
    (after useOps (after lossOps (after takeOps (after nearOps (after (distOps (F := F)) V)))))
  simp only [ops, after_append]
  rw [h1, h2, h3, h4, h5, h6]
  simp only [distOps_main_v1, distOps_main_v16, nearOps_main_v17, takeOps_main_v18, lossOps_main_v32, lossOps_main_v34, useOps_main_v45, distOps_keep_main_arg0, distOps_keep_main_arg1, nearOps_keep_main_arg0, nearOps_keep_main_arg1, nearOps_keep_main_v1, takeOps_keep_main_arg0, takeOps_keep_main_arg1, takeOps_keep_main_v1, takeOps_keep_main_v17, lossOps_keep_main_arg0, lossOps_keep_main_arg1, lossOps_keep_main_v17, useOps_keep_main_arg0, useOps_keep_main_arg1, useOps_keep_main_v17, useOps_keep_main_v32, useOps_keep_main_v34]
  exact ⟨rfl, rfl, rfl, rfl, trivial, trivial⟩

/-- Every execution of the reference ends with its four results at the stages' composition of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = layRows (addf (vecs (m ((c.tc : Thread nD τ).loc main_arg0)))
            (subf (quant (m ((c.tc : Thread nD τ).loc main_arg0)) (m ((c.tc : Thread nD τ).loc main_arg1)))
              (vecs (m ((c.tc : Thread nD τ).loc main_arg0)))))
      ∧ r.2.mem ((c.tc : Thread nD τ).loc main_v50)
        = layIdx (idx (m ((c.tc : Thread nD τ).loc main_arg0)) (m ((c.tc : Thread nD τ).loc main_arg1)))
      ∧ r.2.mem ((c.tc : Thread nD τ).loc main_v52)
        = layLoss (losses (quant (m ((c.tc : Thread nD τ).loc main_arg0)) (m ((c.tc : Thread nD τ).loc main_arg1)))
            (vecs (m ((c.tc : Thread nD τ).loc main_arg0))))
      ∧ r.2.mem ((c.tc : Thread nD τ).loc main_v45)
        = perplexity (freq (idx (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
      obtain ⟨h1, h2, h3, h4, h5, h6⟩ := after_ops (launchContents m c)
      exact ⟨(h c main_v51).trans h1, (h c main_v50).trans h2, (h c main_v52).trans h3, (h c main_v45).trans h4,
        (h c main_arg0).trans h5, (h c main_arg1).trans h6⟩)
    (run_seq scopedRefs_eq scopedSems_eq defs main (fun _ => ops) main_eq (fun _ => ops_sub) m ρ fun _ => ops_fresh)

end VQ.Ref

end
-- ==== Proof.KRun.lean ====
/- The kernel's run: its four results and its two arguments after it, each array element by element. -/
module

public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)

namespace VQ.Kern

open Cert.KernelIdeal Cert.KernelIdeal.Gen

variable {F : FTy → Type} [FloatOps F]
variable (m : (ℓ : Loc nD τ sig) → Buf (Elt F) ℓ) (ρ : Dev nD → PrngReg)

/-- The grid point of layer `q`. -/
def pt (q : Fin 4) : Fin cfg0.N := ⟨q.val, lt_of_lt_of_eq q.isLt (N_0).symm⟩

/-- Where the block of layer `q` of window 0 starts. -/
theorem start0 (q : Fin 4) : win0_0.index (pt q) 0 = 0 ∧ win0_0.index (pt q) 1 = q.val ∧ win0_0.index (pt q) 2 = 0 ∧ win0_0.index (pt q) 3 = 0 :=
  (by decide +kernel : ∀ t : Fin grid0.N, win0_0.index t 0 = 0 ∧ win0_0.index t 1 = t.val ∧ win0_0.index t 2 = 0 ∧ win0_0.index t 3 = 0) (pt q)

/-- An element of the block of layer `q` of window 0 is the array's element of that layer. -/
theorem emb0 (b : Fin 8) (q : Fin 4) (d : Fin 64) (t : Fin 1024) : ((cfg0.win 0).blk (pt q)).view.emb (ix4 b (0 : Fin 1) d t) = ix4 b q d t := by
  have h := start0 q
  funext a; apply Fin.ext
  match a with
  | ⟨0, _⟩ =>
    refine (Pipeline.Window.rect_emb_val win0_0 (pt q) (ix4 b (0 : Fin 1) d t) ⟨0, _⟩).trans ?_
    show win0_0.index (pt q) 0 * _ + _ = _
    rw [h.1]
    exact (congrArg (· + _) (Nat.zero_mul _)).trans (Nat.zero_add _)
  | ⟨1, _⟩ =>
    refine (Pipeline.Window.rect_emb_val win0_0 (pt q) (ix4 b (0 : Fin 1) d t) ⟨1, _⟩).trans ?_
    show win0_0.index (pt q) 1 * _ + _ = _
    rw [h.2.1]
    show q.val * 1 + 0 = q.val
    omega
  | ⟨2, _⟩ =>
    refine (Pipeline.Window.rect_emb_val win0_0 (pt q) (ix4 b (0 : Fin 1) d t) ⟨2, _⟩).trans ?_
    show win0_0.index (pt q) 2 * _ + _ = _
    rw [h.2.2.1]
    exact (congrArg (· + _) (Nat.zero_mul _)).trans (Nat.zero_add _)
  | ⟨3, _⟩ =>
    refine (Pipeline.Window.rect_emb_val win0_0 (pt q) (ix4 b (0 : Fin 1) d t) ⟨3, _⟩).trans ?_
    show win0_0.index (pt q) 3 * _ + _ = _
    rw [h.2.2.2]
    exact (congrArg (· + _) (Nat.zero_mul _)).trans (Nat.zero_add _)

/-- Window 0's block of layer `q` holds the array's elements of that layer. -/
theorem blk0 (c : Dev nD) (b : Fin 8) (q : Fin 4) (d : Fin 64) (t : Fin 1024) :
    iblk m c 0 (pt q) (ix4 b (0 : Fin 1) d t) = V m c main_call0_v0 (ix4 b q d t) := by
  unfold iblk
  refine (View.read_apply _ _).trans ?_
  rw [emb0]
  rfl

/-- Where the block of layer `q` of window 1 starts. -/
theorem start1 (q : Fin 4) : win0_1.index (pt q) 0 = q.val ∧ win0_1.index (pt q) 1 = 0 ∧ win0_1.index (pt q) 2 = 0 :=
  (by decide +kernel : ∀ t : Fin grid0.N, win0_1.index t 0 = t.val ∧ win0_1.index t 1 = 0 ∧ win0_1.index t 2 = 0) (pt q)

/-- An element of the block of layer `q` of window 1 is the array's element of that layer. -/
theorem emb1 (q : Fin 4) (k : Fin 1024) (d : Fin 64) : ((cfg0.win 1).blk (pt q)).view.emb (ix3 (0 : Fin 1) k d) = ix3 q k d := by
  have h := start1 q
  funext a; apply Fin.ext
  match a with
  | ⟨0, _⟩ =>
    refine (Pipeline.Window.rect_emb_val win0_1 (pt q) (ix3 (0 : Fin 1) k d) ⟨0, _⟩).trans ?_
    show win0_1.index (pt q) 0 * _ + _ = _
    rw [h.1]
    show q.val * 1 + 0 = q.val
    omega
  | ⟨1, _⟩ =>
    refine (Pipeline.Window.rect_emb_val win0_1 (pt q) (ix3 (0 : Fin 1) k d) ⟨1, _⟩).trans ?_
    show win0_1.index (pt q) 1 * _ + _ = _
    rw [h.2.1]
    exact (congrArg (· + _) (Nat.zero_mul _)).trans (Nat.zero_add _)
  | ⟨2, _⟩ =>
    refine (Pipeline.Window.rect_emb_val win0_1 (pt q) (ix3 (0 : Fin 1) k d) ⟨2, _⟩).trans ?_
    show win0_1.index (pt q) 2 * _ + _ = _
    rw [h.2.2]
    exact (congrArg (· + _) (Nat.zero_mul _)).trans (Nat.zero_add _)

/-- Window 1's block of layer `q` holds the array's elements of that layer. -/
theorem blk1 (c : Dev nD) (q : Fin 4) (k : Fin 1024) (d : Fin 64) :
    iblk m c 1 (pt q) (ix3 (0 : Fin 1) k d) = V m c main_call0_v2 (ix3 q k d) := by
  unfold iblk
  refine (View.read_apply _ _).trans ?_
  rw [emb1]
  rfl

/-- Where the block of layer `q` of window 2 starts. -/
theorem start2 (q : Fin 4) : win0_2.index (pt q) 0 = q.val ∧ win0_2.index (pt q) 1 = 0 ∧ win0_2.index (pt q) 2 = 0 :=
  (by decide +kernel : ∀ t : Fin grid0.N, win0_2.index t 0 = t.val ∧ win0_2.index t 1 = 0 ∧ win0_2.index t 2 = 0) (pt q)

/-- An element of the block of layer `q` of window 2 is the array's element of that layer. -/
theorem emb2 (q : Fin 4) (d : Fin 64) (k : Fin 1024) : ((cfg0.win 2).blk (pt q)).view.emb (ix3 (0 : Fin 1) d k) = ix3 q d k := by
  have h := start2 q
  funext a; apply Fin.ext
  match a with
  | ⟨0, _⟩ =>
    refine (Pipeline.Window.rect_emb_val win0_2 (pt q) (ix3 (0 : Fin 1) d k) ⟨0, _⟩).trans ?_
    show win0_2.index (pt q) 0 * _ + _ = _
    rw [h.1]
    show q.val * 1 + 0 = q.val
    omega
  | ⟨1, _⟩ =>
    refine (Pipeline.Window.rect_emb_val win0_2 (pt q) (ix3 (0 : Fin 1) d k) ⟨1, _⟩).trans ?_
    show win0_2.index (pt q) 1 * _ + _ = _
    rw [h.2.1]
    exact (congrArg (· + _) (Nat.zero_mul _)).trans (Nat.zero_add _)
  | ⟨2, _⟩ =>
    refine (Pipeline.Window.rect_emb_val win0_2 (pt q) (ix3 (0 : Fin 1) d k) ⟨2, _⟩).trans ?_
    show win0_2.index (pt q) 2 * _ + _ = _
    rw [h.2.2]
    exact (congrArg (· + _) (Nat.zero_mul _)).trans (Nat.zero_add _)

/-- Window 2's block of layer `q` holds the array's elements of that layer. -/
theorem blk2 (c : Dev nD) (q : Fin 4) (d : Fin 64) (k : Fin 1024) :
    iblk m c 2 (pt q) (ix3 (0 : Fin 1) d k) = V m c main_call0_v3 (ix3 q d k) := by
  unfold iblk
  refine (View.read_apply _ _).trans ?_
  rw [emb2]
  rfl

/-- Where the block of layer `q` of window 3 starts. -/
theorem start3 (q : Fin 4) : win0_3.index (pt q) 0 = 0 ∧ win0_3.index (pt q) 1 = q.val ∧ win0_3.index (pt q) 2 = 0 ∧ win0_3.index (pt q) 3 = 0 :=
  (by decide +kernel : ∀ t : Fin grid0.N, win0_3.index t 0 = 0 ∧ win0_3.index t 1 = t.val ∧ win0_3.index t 2 = 0 ∧ win0_3.index t 3 = 0) (pt q)

/-- An element of the block of layer `q` of window 3 is the array's element of that layer. -/
theorem emb3 (b : Fin 8) (q : Fin 4) (d : Fin 64) (t : Fin 1024) : ((cfg0.win 3).blk (pt q)).view.emb (ix4 b (0 : Fin 1) d t) = ix4 b q d t := by
  have h := start3 q
  funext a; apply Fin.ext
  match a with
  | ⟨0, _⟩ =>
    refine (Pipeline.Window.rect_emb_val win0_3 (pt q) (ix4 b (0 : Fin 1) d t) ⟨0, _⟩).trans ?_
    show win0_3.index (pt q) 0 * _ + _ = _
    rw [h.1]
    exact (congrArg (· + _) (Nat.zero_mul _)).trans (Nat.zero_add _)
  | ⟨1, _⟩ =>
    refine (Pipeline.Window.rect_emb_val win0_3 (pt q) (ix4 b (0 : Fin 1) d t) ⟨1, _⟩).trans ?_
    show win0_3.index (pt q) 1 * _ + _ = _
    rw [h.2.1]
    show q.val * 1 + 0 = q.val
    omega
  | ⟨2, _⟩ =>
    refine (Pipeline.Window.rect_emb_val win0_3 (pt q) (ix4 b (0 : Fin 1) d t) ⟨2, _⟩).trans ?_
    show win0_3.index (pt q) 2 * _ + _ = _
    rw [h.2.2.1]
    exact (congrArg (· + _) (Nat.zero_mul _)).trans (Nat.zero_add _)
  | ⟨3, _⟩ =>
    refine (Pipeline.Window.rect_emb_val win0_3 (pt q) (ix4 b (0 : Fin 1) d t) ⟨3, _⟩).trans ?_
    show win0_3.index (pt q) 3 * _ + _ = _
    rw [h.2.2.2]
    exact (congrArg (· + _) (Nat.zero_mul _)).trans (Nat.zero_add _)

/-- The blocks window 3 writes back at different layers share no element. -/
theorem disj3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne
    ((by decide +kernel : ∀ t t' : Fin grid0.N, win0_3.index t = win0_3.index t' → t = t') t t' h)

/-- Window 3's array after the region, at an element of layer `q`, is what the body left there for that layer. -/
theorem arr3 (c : Dev nD) (b : Fin 8) (q : Fin 4) (d : Fin 64) (t : Fin 1024) :
    (dats m 0 c).arrAt 3 cfg0.N (ix4 b q d t)
      = out0_3 (iblk m c 0 (pt q)) (iblk m c 1 (pt q)) (iblk m c 2 (pt q)) (ix4 b (0 : Fin 1) d t) := by
  have h := (dats m 0 c).arrAt_emb_eq_flushed 3 disj3 (pt q) (flush0_3 _) (ix4 b (0 : Fin 1) d t)
  rw [emb3] at h
  refine h.trans ?_
  show (cfg0.win 3).cut (grid0.coords (pt q)) ((dats m 0 c).after 3 (pt q)) _ = _
  rw [after0_3]
  rfl

/-- Where the block of layer `q` of window 4 starts. -/
theorem start4 (q : Fin 4) : win0_4.index (pt q) 0 = q.val ∧ win0_4.index (pt q) 1 = 0 ∧ win0_4.index (pt q) 2 = 0 ∧ win0_4.index (pt q) 3 = 0 :=
  (by decide +kernel : ∀ t : Fin grid0.N, win0_4.index t 0 = t.val ∧ win0_4.index t 1 = 0 ∧ win0_4.index t 2 = 0 ∧ win0_4.index t 3 = 0) (pt q)

/-- An element of the block of layer `q` of window 4 is the array's element of that layer. -/
theorem emb4 (q : Fin 4)  (b : Fin 8) (t : Fin 1024) : ((cfg0.win 4).blk (pt q)).view.emb (ix4 (0 : Fin 1) (0 : Fin 1) b t) = ix4 q (0 : Fin 1) b t := by
  have h := start4 q
  funext a; apply Fin.ext
  match a with
  | ⟨0, _⟩ =>
    refine (Pipeline.Window.rect_emb_val win0_4 (pt q) (ix4 (0 : Fin 1) (0 : Fin 1) b t) ⟨0, _⟩).trans ?_
    show win0_4.index (pt q) 0 * _ + _ = _
    rw [h.1]
    show q.val * 1 + 0 = q.val
    omega
  | ⟨1, _⟩ =>
    refine (Pipeline.Window.rect_emb_val win0_4 (pt q) (ix4 (0 : Fin 1) (0 : Fin 1) b t) ⟨1, _⟩).trans ?_
    show win0_4.index (pt q) 1 * _ + _ = _
    rw [h.2.1]
    exact (congrArg (· + _) (Nat.zero_mul _)).trans (Nat.zero_add _)
  | ⟨2, _⟩ =>
    refine (Pipeline.Window.rect_emb_val win0_4 (pt q) (ix4 (0 : Fin 1) (0 : Fin 1) b t) ⟨2, _⟩).trans ?_
    show win0_4.index (pt q) 2 * _ + _ = _
    rw [h.2.2.1]
    exact (congrArg (· + _) (Nat.zero_mul _)).trans (Nat.zero_add _)
  | ⟨3, _⟩ =>
    refine (Pipeline.Window.rect_emb_val win0_4 (pt q) (ix4 (0 : Fin 1) (0 : Fin 1) b t) ⟨3, _⟩).trans ?_
    show win0_4.index (pt q) 3 * _ + _ = _
    rw [h.2.2.2]
    exact (congrArg (· + _) (Nat.zero_mul _)).trans (Nat.zero_add _)

/-- The blocks window 4 writes back at different layers share no element. -/
theorem disj4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne
    ((by decide +kernel : ∀ t t' : Fin grid0.N, win0_4.index t = win0_4.index t' → t = t') t t' h)

/-- Window 4's array after the region, at an element of layer `q`, is what the body left there for that layer. -/
theorem arr4 (c : Dev nD) (q : Fin 4)  (b : Fin 8) (t : Fin 1024) :
    (dats m 0 c).arrAt 4 cfg0.N (ix4 q (0 : Fin 1) b t)
      = out0_4 (iblk m c 0 (pt q)) (iblk m c 1 (pt q)) (iblk m c 2 (pt q)) (ix4 (0 : Fin 1) (0 : Fin 1) b t) := by
  have h := (dats m 0 c).arrAt_emb_eq_flushed 4 disj4 (pt q) (flush0_4 _) (ix4 (0 : Fin 1) (0 : Fin 1) b t)
  rw [emb4] at h
  refine h.trans ?_
  show (cfg0.win 4).cut (grid0.coords (pt q)) ((dats m 0 c).after 4 (pt q)) _ = _
  rw [after0_4]
  rfl

/-- Where the block of layer `q` of window 5 starts. -/
theorem start5 (q : Fin 4) : win0_5.index (pt q) 0 = q.val ∧ win0_5.index (pt q) 1 = 0 ∧ win0_5.index (pt q) 2 = 0 :=
  (by decide +kernel : ∀ t : Fin grid0.N, win0_5.index t 0 = t.val ∧ win0_5.index t 1 = 0 ∧ win0_5.index t 2 = 0) (pt q)

/-- An element of the block of layer `q` of window 5 is the array's element of that layer. -/
theorem emb5 (q : Fin 4)  (l : Fin 128) : ((cfg0.win 5).blk (pt q)).view.emb (ix3 (0 : Fin 1) (0 : Fin 1) l) = ix3 q (0 : Fin 1) l := by
  have h := start5 q
  funext a; apply Fin.ext
  match a with
  | ⟨0, _⟩ =>
    refine (Pipeline.Window.rect_emb_val win0_5 (pt q) (ix3 (0 : Fin 1) (0 : Fin 1) l) ⟨0, _⟩).trans ?_
    show win0_5.index (pt q) 0 * _ + _ = _
    rw [h.1]
    show q.val * 1 + 0 = q.val
    omega
  | ⟨1, _⟩ =>
    refine (Pipeline.Window.rect_emb_val win0_5 (pt q) (ix3 (0 : Fin 1) (0 : Fin 1) l) ⟨1, _⟩).trans ?_
    show win0_5.index (pt q) 1 * _ + _ = _
    rw [h.2.1]
    exact (congrArg (· + _) (Nat.zero_mul _)).trans (Nat.zero_add _)
  | ⟨2, _⟩ =>
    refine (Pipeline.Window.rect_emb_val win0_5 (pt q) (ix3 (0 : Fin 1) (0 : Fin 1) l) ⟨2, _⟩).trans ?_
    show win0_5.index (pt q) 2 * _ + _ = _
    rw [h.2.2]
    exact (congrArg (· + _) (Nat.zero_mul _)).trans (Nat.zero_add _)

/-- The blocks window 5 writes back at different layers share no element. -/
theorem disj5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne
    ((by decide +kernel : ∀ t t' : Fin grid0.N, win0_5.index t = win0_5.index t' → t = t') t t' h)

/-- Window 5's array after the region, at an element of layer `q`, is what the body left there for that layer. -/
theorem arr5 (c : Dev nD) (q : Fin 4)  (l : Fin 128) :
    (dats m 0 c).arrAt 5 cfg0.N (ix3 q (0 : Fin 1) l)
      = out0_5 (iblk m c 0 (pt q)) (iblk m c 1 (pt q)) (iblk m c 2 (pt q)) (ix3 (0 : Fin 1) (0 : Fin 1) l) := by
  have h := (dats m 0 c).arrAt_emb_eq_flushed 5 disj5 (pt q) (flush0_5 _) (ix3 (0 : Fin 1) (0 : Fin 1) l)
  rw [emb5] at h
  refine h.trans ?_
  show (cfg0.win 5).cut (grid0.coords (pt q)) ((dats m 0 c).after 5 (pt q)) _ = _
  rw [after0_5]
  rfl

/-- Where the block of layer `q` of window 6 starts. -/
theorem start6 (q : Fin 4) : win0_6.index (pt q) 0 = q.val ∧ win0_6.index (pt q) 1 = 0 ∧ win0_6.index (pt q) 2 = 0 :=
  (by decide +kernel : ∀ t : Fin grid0.N, win0_6.index t 0 = t.val ∧ win0_6.index t 1 = 0 ∧ win0_6.index t 2 = 0) (pt q)

/-- An element of the block of layer `q` of window 6 is the array's element of that layer. -/
theorem emb6 (q : Fin 4)  (l : Fin 128) : ((cfg0.win 6).blk (pt q)).view.emb (ix3 (0 : Fin 1) (0 : Fin 1) l) = ix3 q (0 : Fin 1) l := by
  have h := start6 q
  funext a; apply Fin.ext
  match a with
  | ⟨0, _⟩ =>
    refine (Pipeline.Window.rect_emb_val win0_6 (pt q) (ix3 (0 : Fin 1) (0 : Fin 1) l) ⟨0, _⟩).trans ?_
    show win0_6.index (pt q) 0 * _ + _ = _
    rw [h.1]
    show q.val * 1 + 0 = q.val
    omega
  | ⟨1, _⟩ =>
    refine (Pipeline.Window.rect_emb_val win0_6 (pt q) (ix3 (0 : Fin 1) (0 : Fin 1) l) ⟨1, _⟩).trans ?_
    show win0_6.index (pt q) 1 * _ + _ = _
    rw [h.2.1]
    exact (congrArg (· + _) (Nat.zero_mul _)).trans (Nat.zero_add _)
  | ⟨2, _⟩ =>
    refine (Pipeline.Window.rect_emb_val win0_6 (pt q) (ix3 (0 : Fin 1) (0 : Fin 1) l) ⟨2, _⟩).trans ?_
    show win0_6.index (pt q) 2 * _ + _ = _
    rw [h.2.2]
    exact (congrArg (· + _) (Nat.zero_mul _)).trans (Nat.zero_add _)

/-- The blocks window 6 writes back at different layers share no element. -/
theorem disj6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne
    ((by decide +kernel : ∀ t t' : Fin grid0.N, win0_6.index t = win0_6.index t' → t = t') t t' h)

/-- Window 6's array after the region, at an element of layer `q`, is what the body left there for that layer. -/
theorem arr6 (c : Dev nD) (q : Fin 4)  (l : Fin 128) :
    (dats m 0 c).arrAt 6 cfg0.N (ix3 q (0 : Fin 1) l)
      = out0_6 (iblk m c 0 (pt q)) (iblk m c 1 (pt q)) (iblk m c 2 (pt q)) (ix3 (0 : Fin 1) (0 : Fin 1) l) := by
  have h := (dats m 0 c).arrAt_emb_eq_flushed 6 disj6 (pt q) (flush0_6 _) (ix3 (0 : Fin 1) (0 : Fin 1) l)
  rw [emb6] at h
  refine h.trans ?_
  show (cfg0.win 6).cut (grid0.coords (pt q)) ((dats m 0 c).after 6 (pt q)) _ = _
  rw [after0_6]
  rfl

/-- The windows' arrays are different buffers. -/
theorem arrays_inj : Function.Injective (Pipeline.arrRef spec0) :=
  (by decide : ∀ w w', Pipeline.arrRef spec0 w = Pipeline.arrRef spec0 w' → w = w')

/-- The three arrays the region reads, from the two arguments. -/
theorem entry0 (c : Dev nD) : (V m c main_call0_v0 : FVec F S8x4x64x1024 .f32)
    = shapeCast S8x4x64x1024 (m ((c : Thread nD τ).loc main_arg0)) shapeCasts_S8x256x32x32_S8x4x64x1024 := by
  show StableHlo.after hostOps0 _ _ = _
  after_results_simp
  rfl

theorem entry1 (c : Dev nD) : (V m c main_call0_v2 : FVec F S4x1024x64 .f32)
    = mulf (broadcastInDim S4x1024x64 ![] bcast_S_S4x1024x64 (constant S_ .f32 0xC0000000#32))
        (m ((c : Thread nD τ).loc main_arg1)) := by
  show StableHlo.after hostOps0 _ _ = _
  after_results_simp
  rfl

theorem entry2 (c : Dev nD) : (V m c main_call0_v3 : FVec F S4x64x1024 .f32)
    = transpose S4x64x1024 [0, 2, 1] (m ((c : Thread nD τ).loc main_arg1)) transposes_S4x1024x64_S4x64x1024_0_2_1 := by
  show StableHlo.after hostOps0 _ _ = _
  after_results_simp
  rfl

/-- The quantised rows after the host's last operations, from window 3's array. -/
theorem tail3 (c : Dev nD) : (Pipeline.afterTail₀ cfgs (dats m) 0 (V0 m) [hostOps1] c main_v0_0 : FVec F S8x256x32x32 .f32)
    = shapeCast S8x256x32x32 ((dats m 0 c).arrAt 3 cfg0.N : FVec F S8x4x64x1024 .f32) shapeCasts_S8x4x64x1024_S8x256x32x32 := by
  have e := Pipeline.withArrays_arr spec0 arrays_inj c (V0 m c) (fun w => (dats m 0 c).arrAt w cfg0.N) 3
  unfold Pipeline.afterTail₀
  show StableHlo.after hostOps1 (Pipeline.withArrays spec0 c (V0 m c) fun w => (dats m 0 c).arrAt w cfg0.N) _ = _
  generalize Pipeline.withArrays spec0 c (V0 m c) (fun w => (dats m 0 c).arrAt w cfg0.N) = W at e ⊢
  rw [← show W (Proc.devRef .tc (Pipeline.arrRef spec0 3)) = _ from e]
  after_results_simp
  rfl

/-- The indices after the host's last operations, from window 4's array. -/
theorem tail4 (c : Dev nD) : (Pipeline.afterTail₀ cfgs (dats m) 0 (V0 m) [hostOps1] c main_v0_1 : IVec S8x4x32x32 32)
    = shapeCast S8x4x32x32 (transpose S8x4x1024 [1, 0, 2] (shapeCast S4x8x1024 ((dats m 0 c).arrAt 4 cfg0.N : IVec S4x1x8x1024 32) shapeCasts_S4x1x8x1024_S4x8x1024) transposes_S4x8x1024_S8x4x1024_1_0_2) shapeCasts_S8x4x1024_S8x4x32x32 := by
  have e := Pipeline.withArrays_arr spec0 arrays_inj c (V0 m c) (fun w => (dats m 0 c).arrAt w cfg0.N) 4
  unfold Pipeline.afterTail₀
  show StableHlo.after hostOps1 (Pipeline.withArrays spec0 c (V0 m c) fun w => (dats m 0 c).arrAt w cfg0.N) _ = _
  generalize Pipeline.withArrays spec0 c (V0 m c) (fun w => (dats m 0 c).arrAt w cfg0.N) = W at e ⊢
  rw [← show W (Proc.devRef .tc (Pipeline.arrRef spec0 4)) = _ from e]
  after_results_simp
  rfl

/-- The losses after the host's last operations, from window 5's array. -/
theorem tail5 (c : Dev nD) : (Pipeline.afterTail₀ cfgs (dats m) 0 (V0 m) [hostOps1] c main_v0_2 : FVec F S4 .f32)
    = shapeCast S4 (extractStridedSlice S4x1x1 ![0, 0, 0] ((dats m 0 c).arrAt 5 cfg0.N : FVec F S4x1x128 .f32) slices_S4x1x128_S4x1x1_0_0_0) shapeCasts_S4x1x1_S4 := by
  have e := Pipeline.withArrays_arr spec0 arrays_inj c (V0 m c) (fun w => (dats m 0 c).arrAt w cfg0.N) 5
  unfold Pipeline.afterTail₀
  show StableHlo.after hostOps1 (Pipeline.withArrays spec0 c (V0 m c) fun w => (dats m 0 c).arrAt w cfg0.N) _ = _
  generalize Pipeline.withArrays spec0 c (V0 m c) (fun w => (dats m 0 c).arrAt w cfg0.N) = W at e ⊢
  rw [← show W (Proc.devRef .tc (Pipeline.arrRef spec0 5)) = _ from e]
  after_results_simp
  rfl

/-- The perplexities after the host's last operations, from window 6's array. -/
theorem tail6 (c : Dev nD) : (Pipeline.afterTail₀ cfgs (dats m) 0 (V0 m) [hostOps1] c main_v0_3 : FVec F S4 .f32)
    = shapeCast S4 (extractStridedSlice S4x1x1 ![0, 0, 0] ((dats m 0 c).arrAt 6 cfg0.N : FVec F S4x1x128 .f32) slices_S4x1x128_S4x1x1_0_0_0) shapeCasts_S4x1x1_S4 := by
  have e := Pipeline.withArrays_arr spec0 arrays_inj c (V0 m c) (fun w => (dats m 0 c).arrAt w cfg0.N) 6
  unfold Pipeline.afterTail₀
  show StableHlo.after hostOps1 (Pipeline.withArrays spec0 c (V0 m c) fun w => (dats m 0 c).arrAt w cfg0.N) _ = _
  generalize Pipeline.withArrays spec0 c (V0 m c) (fun w => (dats m 0 c).arrAt w cfg0.N) = W at e ⊢
  rw [← show W (Proc.devRef .tc (Pipeline.arrRef spec0 6)) = _ from e]
  after_results_simp
  rfl

/-- The run: every result is the host's last operations on a window's array, and the arguments are unchanged. -/
theorem run : θ_run defs (onTc (τ := τ) (main (F := F))) ⟨m, fun _ => 0, ρ⟩ fun r => ∀ c : Dev nD,
    ((r.2.mem ((c : Thread nD τ).loc main_v0_0) : FVec F S8x256x32x32 .f32) = shapeCast S8x256x32x32 ((dats m 0 c).arrAt 3 cfg0.N : FVec F S8x4x64x1024 .f32) shapeCasts_S8x4x64x1024_S8x256x32x32
    ∧ (r.2.mem ((c : Thread nD τ).loc main_v0_1) : IVec S8x4x32x32 32) = shapeCast S8x4x32x32 (transpose S8x4x1024 [1, 0, 2] (shapeCast S4x8x1024 ((dats m 0 c).arrAt 4 cfg0.N : IVec S4x1x8x1024 32) shapeCasts_S4x1x8x1024_S4x8x1024) transposes_S4x8x1024_S8x4x1024_1_0_2) shapeCasts_S8x4x1024_S8x4x32x32
    ∧ (r.2.mem ((c : Thread nD τ).loc main_v0_2) : FVec F S4 .f32) = shapeCast S4 (extractStridedSlice S4x1x1 ![0, 0, 0] ((dats m 0 c).arrAt 5 cfg0.N : FVec F S4x1x128 .f32) slices_S4x1x128_S4x1x1_0_0_0) shapeCasts_S4x1x1_S4
    ∧ (r.2.mem ((c : Thread nD τ).loc main_v0_3) : FVec F S4 .f32) = shapeCast S4 (extractStridedSlice S4x1x1 ![0, 0, 0] ((dats m 0 c).arrAt 6 cfg0.N : FVec F S4x1x128 .f32) slices_S4x1x128_S4x1x1_0_0_0) shapeCasts_S4x1x1_S4
    ∧ r.2.mem ((c : Thread nD τ).loc main_arg0) = m ((c : Thread nD τ).loc main_arg0)
    ∧ r.2.mem ((c : Thread nD τ).loc main_arg1) = m ((c : Thread nD τ).loc main_arg1)) :=
  (θ_run defs _ _).mono (fun _ h c => ⟨
    ((h c).2 main_v0_0 (Pipeline.mem_restRefs_of main_v0_0 (by decide) (by decide))).trans (tail3 m c),
    ((h c).2 main_v0_1 (Pipeline.mem_restRefs_of main_v0_1 (by decide) (by decide))).trans (tail4 m c),
    ((h c).2 main_v0_2 (Pipeline.mem_restRefs_of main_v0_2 (by decide) (by decide))).trans (tail5 m c),
    ((h c).2 main_v0_3 (Pipeline.mem_restRefs_of main_v0_3 (by decide) (by decide))).trans (tail6 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩) (run_main m ρ)

end VQ.Kern
-- ==== Proof.FirstMin.lean ====
/- The first least element of a row, and the two programs' operations that find it. -/
module

public import proofs.«01_k».proof.ReferenceIdeal
public import Idealize.ShloMosaic.PureOps.Ideal.Laws
public import Idealize.ShloMosaic.Lib.Pointwise

@[expose] public section

noncomputable section

open Idealize.ShloMosaic

namespace VQ

/-- `k` is the first place at which `f` is least. -/
def IsFirst {n : Nat} (f : Fin n → EReal) (k : Fin n) : Prop := ∀ i, f k < f i ∨ (f k = f i ∧ k ≤ i)

/-- A function on a nonempty finite range has a first place at which it is least. -/
theorem exists_isFirst {n : Nat} [NeZero n] (f : Fin n → EReal) : ∃ k, IsFirst f k := by
  obtain ⟨k₀, hk₀⟩ := Finite.exists_min f
  have hne : (Finset.univ.filter fun k => f k = f k₀).Nonempty := ⟨k₀, by simp⟩
  refine ⟨(Finset.univ.filter fun k => f k = f k₀).min' hne, fun i => ?_⟩
  have hm := Finset.min'_mem _ hne
  rw [Finset.mem_filter] at hm
  rw [hm.2]
  rcases lt_or_eq_of_le (hk₀ i) with h | h
  · exact .inl h
  · exact .inr ⟨h, Finset.min'_le _ _ (by simp [h])⟩

/-- The least element of a set of naturals that has `k` as its least element. -/
theorem getD_min (S : Finset Nat) (k : Nat) (hk : k ∈ S) (hle : ∀ y ∈ S, k ≤ y) : S.min.getD 0 = k := by
  have h : S.min = ((k : Nat) : WithTop Nat) :=
    le_antisymm (Finset.min_le hk) (Finset.le_min fun y hy => WithTop.coe_le_coe.2 (hle y hy))
  rw [h]
  rfl

/-- The kernel's index reduction over the rows of a column is the first place the column is least. -/
theorem reduceIndex_first {n p : Nat} (h : (⟨2, ![n, p]⟩ : Shape).Reduces [0] ⟨1, ![p]⟩)
    (x : (⟨2, ![n, p]⟩ : Shape).Idx → EReal) (t : Fin p) (k : Fin n) (hk : IsFirst (fun i => x (ix2 i t)) k) :
    Ideal.reduceIndex .argMin 0 h x (ix1 t) = BitVec.ofNat 32 k.val := by
  have hf : ∀ i, h.drop i = ix1 t ↔ ∃ k : Fin n, ix2 k t = i := fun i => h.fiber_r2_a0 (ix1 t) i
  unfold Ideal.reduceIndex
  dsimp only
  refine congrArg (BitVec.ofNat 32) ?_
  refine getD_min _ _ (Finset.mem_image.2 ⟨ix2 k t, ?_, rfl⟩) fun y hy => ?_
  · simp only [Finset.mem_filter, Finset.mem_univ, true_and, reduceCtorEq, if_false, not_lt]
    refine ⟨(hf _).2 ⟨k, rfl⟩, fun i' hi' => ?_⟩
    obtain ⟨k', rfl⟩ := (hf _).1 hi'
    rcases hk k' with h1 | h1
    · exact le_of_lt h1
    · exact le_of_eq h1.1
  · obtain ⟨i, hi, rfl⟩ := Finset.mem_image.1 hy
    simp only [Finset.mem_filter, Finset.mem_univ, true_and, reduceCtorEq, if_false, not_lt] at hi
    obtain ⟨k', rfl⟩ := (hf _).1 hi.1
    have h2 := hi.2 (ix2 k t) ((hf _).2 ⟨k, rfl⟩)
    rcases hk k' with h1 | h1
    · exact absurd h1 (not_lt.2 h2)
    · exact h1.2

/-- One step of the reference's index reduction: the accumulated pair is kept when its value is less, or equal at
    a smaller index. -/
theorem reducer_apply (a b : EReal × BitVec 32) :
    Cert.ReferenceIdeal.reducer_argmin_f32_i32 (F := Ideal) a b
      = if a.1 < b.1 then a else if a.1 = b.1 ∧ a.2.toInt < b.2.toInt then (b.1, a.2) else b := by
  obtain ⟨a1, a2⟩ := a
  obtain ⟨b1, b2⟩ := b
  unfold Cert.ReferenceIdeal.reducer_argmin_f32_i32
  have e : a2.slt b2 = decide (a2.toInt < b2.toInt) := rfl
  by_cases h1 : a1 < b1
  · have h2 : ¬ a1 = b1 := ne_of_lt h1
    simp [Ideal.cmpf_def, Ideal.cmp, IntOp.cmpi, IntOp.ori, IntOp.andi, Scalar.select, h1, h2]
  · by_cases h2 : a1 = b1
    · subst h2
      by_cases h3 : a2.toInt < b2.toInt <;>
        simp [Ideal.cmpf_def, Ideal.cmp, IntOp.cmpi, IntOp.ori, IntOp.andi, Scalar.select, e, h3]
    · simp [Ideal.cmpf_def, Ideal.cmp, IntOp.cmpi, IntOp.ori, IntOp.andi, Scalar.select, h1, h2]

/-- `p` does not come before the pair of value `v` and index word `w`. -/
def NotBefore (v : EReal) (w : BitVec 32) (p : EReal × BitVec 32) : Prop :=
  v < p.1 ∨ (v = p.1 ∧ w.toInt ≤ p.2.toInt)

/-- A step of the reduction on two pairs that do not come before `(v, w)` gives one that does not; and it gives
    `(v, w)` if one of the two is that pair. -/
theorem reducer_step (v : EReal) (w : BitVec 32) (r p : EReal × BitVec 32) (hr : NotBefore v w r)
    (hp : NotBefore v w p) :
    NotBefore v w (Cert.ReferenceIdeal.reducer_argmin_f32_i32 (F := Ideal) r p)
      ∧ (r = (v, w) ∨ p = (v, w) → Cert.ReferenceIdeal.reducer_argmin_f32_i32 (F := Ideal) r p = (v, w)) := by
  rw [reducer_apply]
  obtain ⟨r1, r2⟩ := r
  obtain ⟨p1, p2⟩ := p
  unfold NotBefore at *
  dsimp only at hr hp ⊢
  by_cases h1 : r1 < p1
  · rw [if_pos h1]
    refine ⟨hr, ?_⟩
    rintro (h | h)
    · exact h
    · obtain ⟨rfl, rfl⟩ := Prod.mk.inj h
      rcases hr with hr | hr
      · exact absurd h1 (lt_asymm hr)
      · exact absurd hr.1 (ne_of_gt h1)
  · rw [if_neg h1]
    by_cases h2 : r1 = p1 ∧ r2.toInt < p2.toInt
    · rw [if_pos h2]
      obtain ⟨rfl, h3⟩ := h2
      refine ⟨hr, ?_⟩
      rintro (h | h)
      · exact h
      · obtain ⟨rfl, rfl⟩ := Prod.mk.inj h
        rcases hr with hr | hr
        · exact absurd hr (lt_irrefl _)
        · omega
    · rw [if_neg h2]
      refine ⟨hp, ?_⟩
      rintro (h | h)
      · obtain ⟨rfl, rfl⟩ := Prod.mk.inj h
        rcases hp with hp | hp
        · exact absurd hp h1
        · obtain ⟨rfl, hp⟩ := hp
          have : r2.toInt = p2.toInt := by
            by_contra hne
            exact h2 ⟨rfl, by omega⟩
          rw [BitVec.toInt_inj.1 this]
      · exact h

/-- The reference's fold reaches the pair no other pair of the list, nor the initial one, comes before. -/
theorem foldl_reducer (v : EReal) (w : BitVec 32) : ∀ (L : List (EReal × BitVec 32)) (r : EReal × BitVec 32),
    NotBefore v w r → (∀ p ∈ L, NotBefore v w p) → ((v, w) ∈ L ∨ r = (v, w)) →
    L.foldl (Cert.ReferenceIdeal.reducer_argmin_f32_i32 (F := Ideal)) r = (v, w)
  | [], r, _, _, hm => by
    rcases hm with hm | hm
    · simp at hm
    · exact hm
  | p :: L, r, hr, hL, hm => by
    rw [List.foldl_cons]
    have hs := reducer_step v w r p hr (hL p (by simp))
    refine foldl_reducer v w L _ hs.1 (fun p' hp' => hL p' (List.mem_cons_of_mem _ hp')) ?_
    rcases hm with hm | hm
    · rcases List.mem_cons.1 hm with hm | hm
      · exact .inr (hs.2 (.inr hm.symm))
      · exact .inl hm
    · exact .inr (hs.2 (.inl hm))

/-- The reference's index reduction over the last axis is the first place the row is least, its entries below +∞. -/
theorem argReduce_first {a b n : Nat} (hn : n ≤ 2 ^ 31) {u : Shape}
    (h : (⟨3, ![a, b, n]⟩ : Shape).ReducesTo [2] ⟨2, ![a, b]⟩) (hu : 0 < u.numel)
    (D : (⟨3, ![a, b, n]⟩ : Shape).Idx → EReal) (q : Fin a) (p : Fin b) (k : Fin n)
    (hk : IsFirst (fun i => D (ix3 q p i)) k) (hT : D (ix3 q p k) < ⊤) :
    (Host.argReduce (F := Ideal) (φ := .f32) Cert.ReferenceIdeal.reducer_argmin_f32_i32 D (iotaInDim ⟨3, ![a, b, n]⟩ 32 2)
      (constant u .f32 0x7F800000#32) (constantI u 32 0#32) h hu (ix2 q p)).2 = BitVec.ofNat 32 k.val := by
  have hf : ∀ i, h.drop i = ix2 q p ↔ ∃ k : Fin n, ix3 q p k = i := fun i => h.fiber_r3_a2 (ix2 q p) i
  have hint : ∀ i : Fin n, (BitVec.ofNat 32 i.val).toInt = i.val := fun i => by
    have := i.isLt
    rw [BitVec.toInt_eq_toNat_of_lt (by rw [BitVec.toNat_ofNat]; omega), BitVec.toNat_ofNat, Nat.mod_eq_of_lt (by omega)]
  have hmap : ∀ (i : Fin n), ((D (ix3 q p i), iotaInDim ⟨3, ![a, b, n]⟩ 32 2 (ix3 q p i)) : EReal × BitVec 32)
      = (D (ix3 q p i), BitVec.ofNat 32 i.val) := fun i => rfl
  rw [Ideal.argReduce_eq_reduce2, Host.reduce2_eq_foldl_fiber, foldl_reducer (D (ix3 q p k)) (BitVec.ofNat 32 k.val)]
  · refine .inl ?_
    show D (ix3 q p k) < Ideal.ofBits .f32 0x7F800000#32
    rw [show Ideal.ofBits .f32 0x7F800000#32 = ⊤ by simp [Ideal.ofBits, Ideal.ieee]]
    exact hT
  · intro e he
    obtain ⟨x, hx, rfl⟩ := List.mem_map.1 he
    obtain ⟨i, hi⟩ := (hf _).1 (of_decide_eq_true (List.mem_filter.1 hx).2)
    rw [← hi, hmap]
    rcases hk i with h | h
    · exact .inl h
    · refine .inr ⟨h.1, ?_⟩
      show (BitVec.ofNat 32 k.val).toInt ≤ (BitVec.ofNat 32 i.val).toInt
      rw [hint, hint]
      exact_mod_cast h.2
  · refine .inl (List.mem_map.2 ⟨(⟨3, ![a, b, n]⟩ : Shape).rowMajor (ix3 q p k), List.mem_filter.2 ⟨List.mem_finRange _, ?_⟩, ?_⟩)
    · rw [Equiv.symm_apply_apply]
      exact decide_eq_true ((hf _).2 ⟨k, rfl⟩)
    · rw [Equiv.symm_apply_apply, hmap]

/-- The same of an array that is given by that reduction. -/
theorem eq_first {a b n : Nat} (hn : n ≤ 2 ^ 31) {u : Shape}
    (h : (⟨3, ![a, b, n]⟩ : Shape).ReducesTo [2] ⟨2, ![a, b]⟩) (hu : 0 < u.numel)
    (D : (⟨3, ![a, b, n]⟩ : Shape).Idx → EReal) (N : (⟨2, ![a, b]⟩ : Shape).Idx → BitVec 32)
    (hN : N = fun j => (Host.argReduce (F := Ideal) (φ := .f32) Cert.ReferenceIdeal.reducer_argmin_f32_i32 D
      (iotaInDim ⟨3, ![a, b, n]⟩ 32 2) (constant u .f32 0x7F800000#32) (constantI u 32 0#32) h hu j).2)
    (q : Fin a) (p : Fin b) (k : Fin n) (hk : IsFirst (fun i => D (ix3 q p i)) k) (hT : D (ix3 q p k) < ⊤) :
    N (ix2 q p) = BitVec.ofNat 32 k.val := by
  subst hN
  exact argReduce_first hn h hu D q p k hk hT

/-- Codeword numbers are told apart by their words. -/
theorem word_inj (k s : Fin 1024) : BitVec.ofNat 32 k.val = BitVec.ofNat 32 s.val ↔ k = s := by
  constructor
  · intro h
    have := congrArg BitVec.toNat h
    rw [BitVec.toNat_ofNat, BitVec.toNat_ofNat, Nat.mod_eq_of_lt (by omega), Nat.mod_eq_of_lt (by omega)] at this
    exact Fin.ext this
  · rintro rfl; rfl

/-- A number that is one where two codeword numbers agree and zero elsewhere. -/
def same (k s : Fin 1024) : EReal := if k = s then 1 else 0

end VQ
-- ==== Proof.KBlock.lean ====
/- What the kernel's body leaves in its four output blocks, element by element, on extended reals. -/
module

public import proofs.«01_k».proof.Proof.KRun
public import proofs.«01_k».proof.Proof.FirstMin

@[expose] public section

noncomputable section

open Idealize.ShloMosaic
open Cert.KernelIdeal Cert.KernelIdeal.Gen

namespace VQ.Kern

variable (x0 : Vec Ideal S8x1x64x1024 .f32) (x1 : Vec Ideal S1x1024x64 .f32) (x2 : Vec Ideal S1x64x1024 .f32)

/-- Image `b` of a block. -/
def img (b : Fin 8) : Vec Ideal S1x1x64x1024 .f32 := fun j => x0 (ix4 b (0 : Fin 1) (j 2) (j 3))

/-- The distance the body computes between codeword `k` and the vector at position `t` of image `b`. -/
def kdist (b : Fin 8) (t k : Fin 1024) : EReal :=
  ((∑ d : Fin 64, x0 (ix4 b (0 : Fin 1) d t) * x0 (ix4 b (0 : Fin 1) d t))
    + ∑ d : Fin 64, x1 (ix3 (0 : Fin 1) k d) * x0 (ix4 b (0 : Fin 1) d t))
    + Ideal.ofBits .f32 0x3E800000#32 * ∑ d : Fin 64, x1 (ix3 (0 : Fin 1) k d) * x1 (ix3 (0 : Fin 1) k d)

/-- The one-hot entry the body computes from two index words. -/
theorem onehot_word (k s : Fin 1024) :
    (FloatOps.sitofp (F := Ideal) .f32 (BitVec.setWidth 32 (IntOp.cmpi .eq (BitVec.ofNat 32 k.val) (BitVec.ofNat 32 s.val))) : EReal)
      = same k s := by
  have hinj := word_inj k s
  show (((BitVec.setWidth 32 (IntOp.cmpi .eq (BitVec.ofNat 32 k.val) (BitVec.ofNat 32 s.val))).toInt : ℝ) : EReal) = _
  unfold same IntOp.cmpi
  by_cases h : k = s
  · subst h
    simp
  · rw [if_neg h, show (BitVec.ofNat 32 k.val == BitVec.ofNat 32 s.val) = false from beq_eq_false_iff_ne.2 fun e => h (hinj.1 e)]
    simp

set_option maxRecDepth 16384 in
/-- The index the body finds for a vector: the first codeword at least distance. -/
theorem index_apply (b : Fin 8) (t s : Fin 1024) (hs : IsFirst (kdist x0 x1 b t) s) :
    k0_pay6 (F := Ideal) (View.ld x1 r0_0) (img x0 b) (ix1 t) = BitVec.ofNat 32 s.val := by
  unfold k0_pay6
  refine reduceIndex_first _ _ t s ?_
  refine (congrArg (IsFirst · s) (funext fun k => ?_)).mpr hs
  unfold kdist
  pointwise [k0_pay5, k0_pay3, k0_pay1, img]

/-- The rectangle a piece of the first output covers is image `b`'s, and what is loaded through it is that image. -/
theorem ld_img0 : View.ld x0 r0_2 = img x0 (0 : Fin 8) := by
  funext j
  rw [eq_ix4 j]
  pointwise [img]

theorem ld_img1 : View.ld x0 r0_4 = img x0 (1 : Fin 8) := by
  funext j
  rw [eq_ix4 j]
  pointwise [img]

theorem ld_img2 : View.ld x0 r0_6 = img x0 (2 : Fin 8) := by
  funext j
  rw [eq_ix4 j]
  pointwise [img]

theorem ld_img3 : View.ld x0 r0_8 = img x0 (3 : Fin 8) := by
  funext j
  rw [eq_ix4 j]
  pointwise [img]

theorem ld_img4 : View.ld x0 r0_10 = img x0 (4 : Fin 8) := by
  funext j
  rw [eq_ix4 j]
  pointwise [img]

theorem ld_img5 : View.ld x0 r0_12 = img x0 (5 : Fin 8) := by
  funext j
  rw [eq_ix4 j]
  pointwise [img]

theorem ld_img6 : View.ld x0 r0_14 = img x0 (6 : Fin 8) := by
  funext j
  rw [eq_ix4 j]
  pointwise [img]

theorem ld_img7 : View.ld x0 r0_16 = img x0 (7 : Fin 8) := by
  funext j
  rw [eq_ix4 j]
  pointwise [img]

/-- What the body stores for one image: the codewords selected by the one-hot table. -/
theorem quant_apply (b : Fin 8) (t s : Fin 1024) (d : Fin 64) (hs : IsFirst (kdist x0 x1 b t) s) :
    k0_pay9 (F := Ideal) (View.ld x1 r0_0) (View.ld x2 r0_1) (img x0 b) (ix2 d t) = x2 (ix3 (0 : Fin 1) d s) := by
  have h := index_apply x0 x1 b t s hs
  pointwise [k0_pay9, k0_pay8, k0_pay2]
  rw [h]
  simp only [onehot_word]
  unfold same
  simp

/-- The one-hot table of one image. -/
theorem hot_apply (b : Fin 8) (t s k : Fin 1024) (hs : IsFirst (kdist x0 x1 b t) s) :
    k0_pay8 (F := Ideal) (View.ld x1 r0_0) (img x0 b) (ix2 k t) = same k s := by
  have h := index_apply x0 x1 b t s hs
  pointwise [k0_pay8]
  rw [h, onehot_word]

/-- The stored row of indices of one image. -/
theorem row_apply (b : Fin 8) (t s : Fin 1024) (hs : IsFirst (kdist x0 x1 b t) s) :
    k0_pay7 (F := Ideal) (View.ld x1 r0_0) (img x0 b) (ix4 (0 : Fin 1) (0 : Fin 1) (0 : Fin 1) t) = BitVec.ofNat 32 s.val := by
  have h := index_apply x0 x1 b t s hs
  pointwise [k0_pay7]
  exact h

/-- The stored image of selected codewords. -/
theorem image_apply (b : Fin 8) (t s : Fin 1024) (d : Fin 64) (hs : IsFirst (kdist x0 x1 b t) s) :
    k0_pay10 (F := Ideal) (View.ld x1 r0_0) (View.ld x2 r0_1) (img x0 b) (ix4 (0 : Fin 1) (0 : Fin 1) d t) = x2 (ix3 (0 : Fin 1) d s) := by
  have h := quant_apply x0 x1 x2 b t s d hs
  pointwise [k0_pay10]
  exact h

/-- An index of a shape whose first three axes have one place, and of one whose first two have. -/
theorem one_one_one_idx (x : S1x1x1x1024.Idx) : x = ix4 (0 : Fin 1) (0 : Fin 1) (0 : Fin 1) (x 3 : Fin 1024) := by
  rw [eq_ix4 x]
  exact (ix4_inj _ _ _ _ _ _ _ _).2 ⟨Subsingleton.elim _ _, Subsingleton.elim _ _, Subsingleton.elim _ _, rfl⟩

theorem one_one_idx (x : S1x1x64x1024.Idx) : x = ix4 (0 : Fin 1) (0 : Fin 1) (x 2 : Fin 64) (x 3 : Fin 1024) := by
  rw [eq_ix4 x]
  exact (ix4_inj _ _ _ _ _ _ _ _).2 ⟨Subsingleton.elim _ _, Subsingleton.elim _ _, rfl, rfl⟩

/-- Equal coordinates select equal entries. -/
theorem congr_sel (sel : Fin 8 → Fin 1024 → Fin 1024) {b b' : Fin 8} {d d' : Fin 64} {t t' : Fin 1024} (hb : b = b') (hd : d = d') (ht : t = t') :
    x2 (ix3 (0 : Fin 1) d (sel b t)) = x2 (ix3 (0 : Fin 1) d' (sel b' t')) := by
  subst hb hd ht; rfl

/-- The second output block as its eight stores, each the indices of one image. -/
theorem out4_pieces : out0_4 x0 x1 x2 = View.canon [⟨r0_17, k0_pay7 (View.ld x1 r0_0) (View.ld x0 r0_16)⟩,
    ⟨r0_15, k0_pay7 (View.ld x1 r0_0) (View.ld x0 r0_14)⟩,
    ⟨r0_13, k0_pay7 (View.ld x1 r0_0) (View.ld x0 r0_12)⟩,
    ⟨r0_11, k0_pay7 (View.ld x1 r0_0) (View.ld x0 r0_10)⟩,
    ⟨r0_9, k0_pay7 (View.ld x1 r0_0) (View.ld x0 r0_8)⟩,
    ⟨r0_7, k0_pay7 (View.ld x1 r0_0) (View.ld x0 r0_6)⟩,
    ⟨r0_5, k0_pay7 (View.ld x1 r0_0) (View.ld x0 r0_4)⟩,
    ⟨r0_3, k0_pay7 (View.ld x1 r0_0) (View.ld x0 r0_2)⟩] := rfl

/-- The first output block as its eight stores, each the codewords selected for one image. -/
theorem out3_pieces : out0_3 x0 x1 x2 = View.canon [⟨r0_16, k0_pay10 (View.ld x1 r0_0) (View.ld x2 r0_1) (View.ld x0 r0_16)⟩,
    ⟨r0_14, k0_pay10 (View.ld x1 r0_0) (View.ld x2 r0_1) (View.ld x0 r0_14)⟩,
    ⟨r0_12, k0_pay10 (View.ld x1 r0_0) (View.ld x2 r0_1) (View.ld x0 r0_12)⟩,
    ⟨r0_10, k0_pay10 (View.ld x1 r0_0) (View.ld x2 r0_1) (View.ld x0 r0_10)⟩,
    ⟨r0_8, k0_pay10 (View.ld x1 r0_0) (View.ld x2 r0_1) (View.ld x0 r0_8)⟩,
    ⟨r0_6, k0_pay10 (View.ld x1 r0_0) (View.ld x2 r0_1) (View.ld x0 r0_6)⟩,
    ⟨r0_4, k0_pay10 (View.ld x1 r0_0) (View.ld x2 r0_1) (View.ld x0 r0_4)⟩,
    ⟨r0_2, k0_pay10 (View.ld x1 r0_0) (View.ld x2 r0_1) (View.ld x0 r0_2)⟩] := rfl

variable (sel : Fin 8 → Fin 1024 → Fin 1024) (hsel : ∀ b t, IsFirst (kdist x0 x1 b t) (sel b t))

include hsel

/-- The second output block: each vector's index. -/
theorem out4_apply (b : Fin 8) (t : Fin 1024) :
    out0_4 x0 x1 x2 (ix4 (0 : Fin 1) (0 : Fin 1) b t) = BitVec.ofNat 32 (sel b t).val := by
  rw [out4_pieces]
  refine View.canon_apply_of_pieces (Val := Elt Ideal) (S := S1x1x8x1024) (e := .i32) (fun i => BitVec.ofNat 32 (sel (i 2) (i 3)).val) _ ?_ _ (cover0_4 (F := Ideal) _ _ _ _ _ _ _ _ _)
  intro p hp x
  simp only [List.mem_cons, List.not_mem_nil, or_false] at hp
  rcases hp with rfl | rfl | rfl | rfl | rfl | rfl | rfl | rfl
  · rw [ld_img7]
    obtain ⟨t, rfl⟩ : ∃ t : Fin 1024, x = ix4 (0 : Fin 1) (0 : Fin 1) (0 : Fin 1) t := ⟨x 3, one_one_one_idx x⟩
    exact (row_apply x0 x1 7 t _ (hsel 7 t)).trans (congrArg₂ (fun b t => BitVec.ofNat 32 (sel b t).val) (Fin.ext (by rfl)) (Fin.ext (by show t.val = 0 + 1 * t.val; omega)))
  · rw [ld_img6]
    obtain ⟨t, rfl⟩ : ∃ t : Fin 1024, x = ix4 (0 : Fin 1) (0 : Fin 1) (0 : Fin 1) t := ⟨x 3, one_one_one_idx x⟩
    exact (row_apply x0 x1 6 t _ (hsel 6 t)).trans (congrArg₂ (fun b t => BitVec.ofNat 32 (sel b t).val) (Fin.ext (by rfl)) (Fin.ext (by show t.val = 0 + 1 * t.val; omega)))
  · rw [ld_img5]
    obtain ⟨t, rfl⟩ : ∃ t : Fin 1024, x = ix4 (0 : Fin 1) (0 : Fin 1) (0 : Fin 1) t := ⟨x 3, one_one_one_idx x⟩
    exact (row_apply x0 x1 5 t _ (hsel 5 t)).trans (congrArg₂ (fun b t => BitVec.ofNat 32 (sel b t).val) (Fin.ext (by rfl)) (Fin.ext (by show t.val = 0 + 1 * t.val; omega)))
  · rw [ld_img4]
    obtain ⟨t, rfl⟩ : ∃ t : Fin 1024, x = ix4 (0 : Fin 1) (0 : Fin 1) (0 : Fin 1) t := ⟨x 3, one_one_one_idx x⟩
    exact (row_apply x0 x1 4 t _ (hsel 4 t)).trans (congrArg₂ (fun b t => BitVec.ofNat 32 (sel b t).val) (Fin.ext (by rfl)) (Fin.ext (by show t.val = 0 + 1 * t.val; omega)))
  · rw [ld_img3]
    obtain ⟨t, rfl⟩ : ∃ t : Fin 1024, x = ix4 (0 : Fin 1) (0 : Fin 1) (0 : Fin 1) t := ⟨x 3, one_one_one_idx x⟩
    exact (row_apply x0 x1 3 t _ (hsel 3 t)).trans (congrArg₂ (fun b t => BitVec.ofNat 32 (sel b t).val) (Fin.ext (by rfl)) (Fin.ext (by show t.val = 0 + 1 * t.val; omega)))
  · rw [ld_img2]
    obtain ⟨t, rfl⟩ : ∃ t : Fin 1024, x = ix4 (0 : Fin 1) (0 : Fin 1) (0 : Fin 1) t := ⟨x 3, one_one_one_idx x⟩
    exact (row_apply x0 x1 2 t _ (hsel 2 t)).trans (congrArg₂ (fun b t => BitVec.ofNat 32 (sel b t).val) (Fin.ext (by rfl)) (Fin.ext (by show t.val = 0 + 1 * t.val; omega)))
  · rw [ld_img1]
    obtain ⟨t, rfl⟩ : ∃ t : Fin 1024, x = ix4 (0 : Fin 1) (0 : Fin 1) (0 : Fin 1) t := ⟨x 3, one_one_one_idx x⟩
    exact (row_apply x0 x1 1 t _ (hsel 1 t)).trans (congrArg₂ (fun b t => BitVec.ofNat 32 (sel b t).val) (Fin.ext (by rfl)) (Fin.ext (by show t.val = 0 + 1 * t.val; omega)))
  · rw [ld_img0]
    obtain ⟨t, rfl⟩ : ∃ t : Fin 1024, x = ix4 (0 : Fin 1) (0 : Fin 1) (0 : Fin 1) t := ⟨x 3, one_one_one_idx x⟩
    exact (row_apply x0 x1 0 t _ (hsel 0 t)).trans (congrArg₂ (fun b t => BitVec.ofNat 32 (sel b t).val) (Fin.ext (by rfl)) (Fin.ext (by show t.val = 0 + 1 * t.val; omega)))

/-- The first output block: each vector's codeword. -/
theorem out3_apply (b : Fin 8) (d : Fin 64) (t : Fin 1024) :
    out0_3 x0 x1 x2 (ix4 b (0 : Fin 1) d t) = x2 (ix3 (0 : Fin 1) d (sel b t)) := by
  rw [out3_pieces]
  refine View.canon_apply_of_pieces (Val := Elt Ideal) (S := S8x1x64x1024) (e := .f32) (fun i => x2 (ix3 (0 : Fin 1) (i 2) (sel (i 0) (i 3)))) _ ?_ _ (cover0_3 (F := Ideal) _ _ _ _ _ _ _ _ _)
  intro p hp x
  simp only [List.mem_cons, List.not_mem_nil, or_false] at hp
  rcases hp with rfl | rfl | rfl | rfl | rfl | rfl | rfl | rfl
  · rw [ld_img7]
    obtain ⟨d, t, rfl⟩ : ∃ (d : Fin 64) (t : Fin 1024), x = ix4 (0 : Fin 1) (0 : Fin 1) d t := ⟨x 2, x 3, one_one_idx x⟩
    exact (image_apply x0 x1 x2 7 t _ d (hsel 7 t)).trans (congr_sel x2 sel (by rfl) (Fin.ext (by show d.val = 0 + 1 * d.val; omega)) (Fin.ext (by show t.val = 0 + 1 * t.val; omega)))
  · rw [ld_img6]
    obtain ⟨d, t, rfl⟩ : ∃ (d : Fin 64) (t : Fin 1024), x = ix4 (0 : Fin 1) (0 : Fin 1) d t := ⟨x 2, x 3, one_one_idx x⟩
    exact (image_apply x0 x1 x2 6 t _ d (hsel 6 t)).trans (congr_sel x2 sel (by rfl) (Fin.ext (by show d.val = 0 + 1 * d.val; omega)) (Fin.ext (by show t.val = 0 + 1 * t.val; omega)))
  · rw [ld_img5]
    obtain ⟨d, t, rfl⟩ : ∃ (d : Fin 64) (t : Fin 1024), x = ix4 (0 : Fin 1) (0 : Fin 1) d t := ⟨x 2, x 3, one_one_idx x⟩
    exact (image_apply x0 x1 x2 5 t _ d (hsel 5 t)).trans (congr_sel x2 sel (by rfl) (Fin.ext (by show d.val = 0 + 1 * d.val; omega)) (Fin.ext (by show t.val = 0 + 1 * t.val; omega)))
  · rw [ld_img4]
    obtain ⟨d, t, rfl⟩ : ∃ (d : Fin 64) (t : Fin 1024), x = ix4 (0 : Fin 1) (0 : Fin 1) d t := ⟨x 2, x 3, one_one_idx x⟩
    exact (image_apply x0 x1 x2 4 t _ d (hsel 4 t)).trans (congr_sel x2 sel (by rfl) (Fin.ext (by show d.val = 0 + 1 * d.val; omega)) (Fin.ext (by show t.val = 0 + 1 * t.val; omega)))
  · rw [ld_img3]
    obtain ⟨d, t, rfl⟩ : ∃ (d : Fin 64) (t : Fin 1024), x = ix4 (0 : Fin 1) (0 : Fin 1) d t := ⟨x 2, x 3, one_one_idx x⟩
    exact (image_apply x0 x1 x2 3 t _ d (hsel 3 t)).trans (congr_sel x2 sel (by rfl) (Fin.ext (by show d.val = 0 + 1 * d.val; omega)) (Fin.ext (by show t.val = 0 + 1 * t.val; omega)))
  · rw [ld_img2]
    obtain ⟨d, t, rfl⟩ : ∃ (d : Fin 64) (t : Fin 1024), x = ix4 (0 : Fin 1) (0 : Fin 1) d t := ⟨x 2, x 3, one_one_idx x⟩
    exact (image_apply x0 x1 x2 2 t _ d (hsel 2 t)).trans (congr_sel x2 sel (by rfl) (Fin.ext (by show d.val = 0 + 1 * d.val; omega)) (Fin.ext (by show t.val = 0 + 1 * t.val; omega)))
  · rw [ld_img1]
    obtain ⟨d, t, rfl⟩ : ∃ (d : Fin 64) (t : Fin 1024), x = ix4 (0 : Fin 1) (0 : Fin 1) d t := ⟨x 2, x 3, one_one_idx x⟩
    exact (image_apply x0 x1 x2 1 t _ d (hsel 1 t)).trans (congr_sel x2 sel (by rfl) (Fin.ext (by show d.val = 0 + 1 * d.val; omega)) (Fin.ext (by show t.val = 0 + 1 * t.val; omega)))
  · rw [ld_img0]
    obtain ⟨d, t, rfl⟩ : ∃ (d : Fin 64) (t : Fin 1024), x = ix4 (0 : Fin 1) (0 : Fin 1) d t := ⟨x 2, x 3, one_one_idx x⟩
    exact (image_apply x0 x1 x2 0 t _ d (hsel 0 t)).trans (congr_sel x2 sel (by rfl) (Fin.ext (by show d.val = 0 + 1 * d.val; omega)) (Fin.ext (by show t.val = 0 + 1 * t.val; omega)))

end VQ.Kern
-- ==== Proof.KRed.lean ====
/- The two reductions in the kernel's body, element by element: the loss of a layer and its perplexity. -/
module

public import proofs.«01_k».proof.Proof.KBlock

@[expose] public section

noncomputable section

open Idealize.ShloMosaic
open Cert.KernelIdeal Cert.KernelIdeal.Gen

namespace VQ.Kern

/-- A running total and the squared differences of one image. -/
def addErr (acc : Ideal .f32) (a b : FVec Ideal S64x1024 .f32) : Ideal .f32 :=
  let e := subf b a
  Scalar.addf acc (extractAt ![0, 0, 0] (shapeCast S1x1x1 (multiReduction .add [1, 2] S1 (shapeCast S1x64x1024 (mulf e e) shapeCasts_S64x1024_S1x64x1024) 0x00000000#32 reduces_S1x64x1024_S1 (.inl rfl) rfl) shapeCasts_S1_S1x1x1) inpos_S1x1x1_p0_0_0)

set_option maxRecDepth 16384 in
/-- One such step as a double sum. -/
theorem addErr_eq (acc : Ideal .f32) (a b : FVec Ideal S64x1024 .f32) :
    addErr acc a b = (acc : EReal) + ∑ d : Fin 64, ∑ t : Fin 1024, (b (ix2 d t) - a (ix2 d t)) * (b (ix2 d t) - a (ix2 d t)) := by
  pointwise [addErr]

set_option maxRecDepth 16384 in
/-- The loss the body stores, from the total over the first seven images and the last image. -/
theorem lossRow_eq (acc : Ideal .f32) (a b : FVec Ideal S64x1024 .f32) (l : Fin 128) :
    k0_pay68 acc a b (ix3 (0 : Fin 1) (0 : Fin 1) l) = Ideal.div (Ideal.ofBits .f32 0x3FA00000#32 * addErr acc a b) (Ideal.ofBits .f32 0x49000000#32) := by
  rw [addErr_eq]
  pointwise [k0_pay68]

set_option maxRecDepth 16384 in
/-- One image's counts added to a running column. -/
theorem addCount_eq (a : FVec Ideal S1024x1 .f32) (b : FVec Ideal S1024x1024 .f32) (k : Fin 1024) :
    k0_pay12 a b (ix2 k (0 : Fin 1)) = (a (ix2 k (0 : Fin 1)) : EReal) + ∑ t : Fin 1024, b (ix2 k t) := by
  pointwise [k0_pay12]

set_option maxRecDepth 16384 in
/-- The perplexity the body stores, from the column of counts. -/
theorem perpRow_eq (a : FVec Ideal S1024x1 .f32) (b : FVec Ideal S1024x1024 .f32) (l : Fin 128) :
    k0_pay69 a b (ix3 (0 : Fin 1) (0 : Fin 1) l)
      = Ideal.exp (0 - ∑ k : Fin 1024, Ideal.div (k0_pay12 a b (ix2 k (0 : Fin 1))) (Ideal.ofBits .f32 0x46000000#32)
          * Ideal.log (Ideal.div (k0_pay12 a b (ix2 k (0 : Fin 1))) (Ideal.ofBits .f32 0x46000000#32) + Ideal.ofBits .f32 0x2EDBE6FF#32)) := by
  simp only [addCount_eq]
  pointwise [k0_pay69]
  simp only [Finset.univ_unique, Finset.sum_singleton]
  rfl

variable (x0 : Vec Ideal S8x1x64x1024 .f32) (x1 : Vec Ideal S1x1024x64 .f32) (x2 : Vec Ideal S1x64x1024 .f32)

/-- The third output block: the losses of the eight images added in turn. -/
theorem out5_steps : out0_5 x0 x1 x2 = View.canon [⟨r0_18, k0_pay68 (addErr (addErr (addErr (addErr (addErr (addErr (addErr (Scalar.ofBits .f32 0x00000000#32) (k0_pay5 (View.ld x0 r0_2)) (k0_pay9 (View.ld x1 r0_0) (View.ld x2 r0_1) (View.ld x0 r0_2))) (k0_pay5 (View.ld x0 r0_4)) (k0_pay9 (View.ld x1 r0_0) (View.ld x2 r0_1) (View.ld x0 r0_4))) (k0_pay5 (View.ld x0 r0_6)) (k0_pay9 (View.ld x1 r0_0) (View.ld x2 r0_1) (View.ld x0 r0_6))) (k0_pay5 (View.ld x0 r0_8)) (k0_pay9 (View.ld x1 r0_0) (View.ld x2 r0_1) (View.ld x0 r0_8))) (k0_pay5 (View.ld x0 r0_10)) (k0_pay9 (View.ld x1 r0_0) (View.ld x2 r0_1) (View.ld x0 r0_10))) (k0_pay5 (View.ld x0 r0_12)) (k0_pay9 (View.ld x1 r0_0) (View.ld x2 r0_1) (View.ld x0 r0_12))) (k0_pay5 (View.ld x0 r0_14)) (k0_pay9 (View.ld x1 r0_0) (View.ld x2 r0_1) (View.ld x0 r0_14))) (k0_pay5 (View.ld x0 r0_16)) (k0_pay9 (View.ld x1 r0_0) (View.ld x2 r0_1) (View.ld x0 r0_16))⟩] := rfl

/-- The fourth output block: the counts of the eight images added in turn. -/
theorem out6_steps : out0_6 x0 x1 x2 = View.canon [⟨r0_18, k0_pay69 (k0_pay12 (k0_pay12 (k0_pay12 (k0_pay12 (k0_pay12 (k0_pay12 (k0_pay12 k0_pay4 (k0_pay8 (View.ld x1 r0_0) (View.ld x0 r0_2))) (k0_pay8 (View.ld x1 r0_0) (View.ld x0 r0_4))) (k0_pay8 (View.ld x1 r0_0) (View.ld x0 r0_6))) (k0_pay8 (View.ld x1 r0_0) (View.ld x0 r0_8))) (k0_pay8 (View.ld x1 r0_0) (View.ld x0 r0_10))) (k0_pay8 (View.ld x1 r0_0) (View.ld x0 r0_12))) (k0_pay8 (View.ld x1 r0_0) (View.ld x0 r0_14))) (k0_pay8 (View.ld x1 r0_0) (View.ld x0 r0_16))⟩] := rfl

variable (sel : Fin 8 → Fin 1024 → Fin 1024) (hsel : ∀ b t, IsFirst (kdist x0 x1 b t) (sel b t))

/-- The squared error of one image, its vectors replaced by the selected codewords. -/
def err (b : Fin 8) : EReal :=
  ∑ d : Fin 64, ∑ t : Fin 1024, (x2 (ix3 (0 : Fin 1) d (sel b t)) - x0 (ix4 b (0 : Fin 1) d t)) * (x2 (ix3 (0 : Fin 1) d (sel b t)) - x0 (ix4 b (0 : Fin 1) d t))

/-- How often a codeword is selected. -/
def count (k : Fin 1024) : EReal := ∑ b : Fin 8, ∑ t : Fin 1024, same k (sel b t)

include hsel

/-- One step of the running loss. -/
theorem addErr_img (acc : Ideal .f32) (b : Fin 8) :
    addErr acc (k0_pay5 (img x0 b)) (k0_pay9 (View.ld x1 r0_0) (View.ld x2 r0_1) (img x0 b)) = (acc : EReal) + err x0 x2 sel b := by
  have hi : ∀ (d : Fin 64) (t : Fin 1024), k0_pay5 (img x0 b) (ix2 d t) = x0 (ix4 b (0 : Fin 1) d t) := by
    intro d t
    pointwise [k0_pay5, img]
  rw [addErr_eq]
  unfold err
  refine congrArg ((acc : EReal) + ·) (Finset.sum_congr rfl fun d _ => Finset.sum_congr rfl fun t _ => ?_)
  rw [hi, quant_apply x0 x1 x2 b t (sel b t) d (hsel b t)]

/-- The third output block, anywhere along its row. -/
theorem out5_apply (l : Fin 128) :
    out0_5 x0 x1 x2 (ix3 (0 : Fin 1) (0 : Fin 1) l)
      = Ideal.div (Ideal.ofBits .f32 0x3FA00000#32 * ∑ b : Fin 8, err x0 x2 sel b) (Ideal.ofBits .f32 0x49000000#32) := by
  rw [out5_steps, View.canon_unit_zero (by decide), lossRow_eq]
  simp only [ld_img0, ld_img1, ld_img2, ld_img3, ld_img4, ld_img5, ld_img6, ld_img7, addErr_img x0 x1 x2 sel hsel]
  rw [Fin.sum_univ_eight, show (Scalar.ofBits (F := Ideal) .f32 0x00000000#32 : EReal) = 0 from by pointwise, zero_add]

/-- One step of the running counts. -/
theorem addCount_img (a : FVec Ideal S1024x1 .f32) (b : Fin 8) (k : Fin 1024) :
    k0_pay12 a (k0_pay8 (View.ld x1 r0_0) (img x0 b)) (ix2 k (0 : Fin 1)) = (a (ix2 k (0 : Fin 1)) : EReal) + ∑ t : Fin 1024, same k (sel b t) := by
  rw [addCount_eq]
  exact congrArg ((a (ix2 k (0 : Fin 1)) : EReal) + ·) (Finset.sum_congr rfl fun t _ => hot_apply x0 x1 b t (sel b t) k (hsel b t))

/-- The fourth output block, anywhere along its row. -/
theorem out6_apply (l : Fin 128) :
    out0_6 x0 x1 x2 (ix3 (0 : Fin 1) (0 : Fin 1) l)
      = Ideal.exp (0 - ∑ k : Fin 1024, Ideal.div (count sel k) (Ideal.ofBits .f32 0x46000000#32)
          * Ideal.log (Ideal.div (count sel k) (Ideal.ofBits .f32 0x46000000#32) + Ideal.ofBits .f32 0x2EDBE6FF#32)) := by
  have hz : ∀ k : Fin 1024, (k0_pay4 (F := Ideal) (ix2 k (0 : Fin 1)) : EReal) = 0 := by
    intro k
    pointwise [k0_pay4]
  rw [out6_steps, View.canon_unit_zero (by decide), perpRow_eq]
  simp only [ld_img0, ld_img1, ld_img2, ld_img3, ld_img4, ld_img5, ld_img6, ld_img7, addCount_img x0 x1 sel hsel, hz]
  unfold count
  simp only [Fin.sum_univ_eight, zero_add]

end VQ.Kern
-- ==== Proof.RefRead.lean ====
/- The reference's stages, element by element, on extended reals. -/
module

public import proofs.«01_k».proof.Proof.RefRun
public import proofs.«01_k».proof.Proof.FirstMin
public import Idealize.ShloMosaic.Lib.Pointwise
public import Idealize.ShloMosaic.Lib.StableHlo.Predicate

@[expose] public section

noncomputable section

open Idealize.ShloMosaic
open Cert.ReferenceIdeal Cert.ReferenceIdeal.Gen

namespace VQ.Ref

/-- A position's row. -/
theorem row_lt (t : Fin 1024) : t.val / 32 < 32 := by omega

/-- A position's column. -/
theorem col_lt (t : Fin 1024) : t.val % 32 < 32 := by omega

variable (x : FVec Ideal S8x256x32x32 .f32) (c : FVec Ideal S4x1024x64 .f32)

/-- Coordinate `d` of the vector that layer `q` quantises at row `h` and column `w` of image `b`. -/
def pix (q : Fin 4) (b : Fin 8) (h w : Fin 32) (d : Fin 64) : EReal :=
  x (ix4 b (⟨q.val * 64 + d.val, by omega⟩ : Fin 256) h w)

/-- The distance the reference computes between such a vector and codeword `k`. -/
def rdist (q : Fin 4) (b : Fin 8) (h w : Fin 32) (k : Fin 1024) : EReal :=
  ((∑ d : Fin 64, pix x q b h w d * pix x q b h w d)
    - ∑ d : Fin 64, Ideal.ofBits .f32 0x40000000#32 * pix x q b h w d * c (ix3 q k d))
    + ∑ d : Fin 64, c (ix3 q k d) * c (ix3 q k d)

set_option maxRecDepth 16384

/-- The vectors at an index. -/
theorem vecs_apply (q : Fin 4) (b : Fin 8) (h w : Fin 32) (d : Fin 64) : vecs x (ix5 q b h w d) = pix x q b h w d := by
  unfold pix
  pointwise [vecs]

/-- The distance table at an index. -/
theorem dists_apply (q : Fin 4) (n : Fin 8192) (k : Fin 1024) :
    dists (vecs x) c (ix3 q n k)
      = rdist x c q ⟨n.val / 1024, by omega⟩ ⟨n.val / 32 % 32, by omega⟩ ⟨n.val % 32, by omega⟩ k := by
  unfold rdist
  simp only [← vecs_apply]
  generalize vecs x = z
  pointwise [dists]

/-- The nearest codewords are found by one reduction of the table. -/
theorem nearest_eq (D : FVec Ideal S4x8192x1024 .f32) : nearest D
    = fun j => (Host.argReduce reducer_argmin_f32_i32 D (iotaInDim S4x8192x1024 32 2) (constant S_ .f32 0x7F800000#32)
        (constantI S_ 32 0#32) reducesTo_S4x8192x1024_S4x8192_d2 h_S_ j).2 := rfl

/-- The nearest codeword of a table's row: the first place it is least. -/
theorem nearest_apply (D : FVec Ideal S4x8192x1024 .f32) (q : Fin 4) (n : Fin 8192) (s : Fin 1024)
    (hs : IsFirst (fun k => D (ix3 q n k)) s) (hT : D (ix3 q n s) < (⊤ : EReal)) :
    nearest D (ix2 q n) = BitVec.ofNat 32 s.val :=
  eq_first (a := 4) (b := 8192) (n := 1024) (by norm_num) reducesTo_S4x8192x1024_S4x8192_d2 h_S_ D (nearest D)
    (nearest_eq D) q n s hs hT

/-- The index at a vector: the first codeword at least distance. -/
theorem idx_apply (q : Fin 4) (n : Fin 8192) (s : Fin 1024)
    (hs : IsFirst (rdist x c q ⟨n.val / 1024, by omega⟩ ⟨n.val / 32 % 32, by omega⟩ ⟨n.val % 32, by omega⟩) s)
    (hT : rdist x c q ⟨n.val / 1024, by omega⟩ ⟨n.val / 32 % 32, by omega⟩ ⟨n.val % 32, by omega⟩ s < ⊤) :
    idx x c (ix2 q n) = BitVec.ofNat 32 s.val := by
  have hD := dists_apply x c q n
  unfold idx
  generalize dists (vecs x) c = D at hD ⊢
  refine nearest_apply D q n s ?_ ?_
  · rw [show (fun k => D (ix3 q n k)) = _ from funext hD]; exact hs
  · rw [hD]; exact hT

/-- The gather of one codeword per vector: layer `q`'s codebook at the start position read signed and kept in range. -/
theorem gather_apply (S : IVec S4x8192x1 32) (q : Fin 4) (n : Fin 8192) (d : Fin 64) (s : Fin 1024)
    (hS : S (ix3 q n (0 : Fin 1)) = BitVec.ofNat 32 s.val) :
    Host.gather gather_S4x1024x64_S4x8192x1_S4x8192x64_2_1_0_0_1_2_1164 c S (ix3 q n d) = c (ix3 q s d) := by
  unfold Host.gather
  refine congrArg c (funext fun a => Fin.ext ?_)
  generalize hG : gather_S4x1024x64_S4x8192x1_S4x8192x64_2_1_0_0_1_2_1164 = G
  show G.start (ix3 q n d) S a + G.batchCoord (ix3 q n d) a + G.offCoord (ix3 q n d) a = _
  subst hG
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ GatherDims.operandBatchingDims gather_S4x1024x64_S4x8192x1_S4x8192x64_2_1_0_0_1_2_1164 from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ GatherDims.startIndexMap gather_S4x1024x64_S4x8192x1_S4x8192x64_2_1_0_0_1_2_1164 from List.mem_singleton.mpr rfl)]
    have hsi : ∀ z, GatherDims.siIdx gather_S4x1024x64_S4x8192x1_S4x8192x64_2_1_0_0_1_2_1164 (ix3 q n d) z = ix3 q n (0 : Fin 1) := by
      intro z
      funext b; refine Fin.ext ?_
      match b with
      | ⟨0, _⟩ => rfl
      | ⟨1, _⟩ => rfl
      | ⟨2, _⟩ => exact Nat.lt_one_iff.mp z.isLt
    rw [hsi, hS, StableHlo.Predicate.toInt_ofNat_small _ (by omega), Int.toNat_natCast]
    show min s.val (1024 - 1) = s.val
    omega
  · rw [GatherDims.batchCoord_eq_zero _ _ _ (fun h => absurd (List.mem_singleton.mp h) (by decide))]
    unfold GatherDims.start
    rw [dif_neg (fun h : (2 : Fin 3) ∈ GatherDims.startIndexMap gather_S4x1024x64_S4x8192x1_S4x8192x64_2_1_0_0_1_2_1164 => absurd (List.mem_singleton.mp h) (by decide))]
    simp only [Nat.zero_add]
    unfold GatherDims.offCoord
    rw [dif_pos ((GatherDims.mem_sKept _ _).mpr ⟨fun h => absurd (List.mem_singleton.mp h) (by decide), fun h => absurd (List.mem_singleton.mp h) (by decide)⟩)]
    rfl

/-- A start position that is a codeword's number is left as it is. -/
theorem starts_apply (I : IVec S4x8192 32) (q : Fin 4) (n : Fin 8192) (s : Fin 1024)
    (hI : I (ix2 q n) = BitVec.ofNat 32 s.val) : starts I (ix3 q n (0 : Fin 1)) = BitVec.ofNat 32 s.val := by
  pointwise [starts]
  rw [hI]
  have h : ¬ IntOp.cmpi .slt (BitVec.ofNat 32 s.val) (BitVec.ofNat 32 0) = 1#1 := fun e =>
    absurd ((StableHlo.Predicate.slt_ofNat_iff s.val 0 (by omega) (by norm_num)).mp e) (by omega)
  exact if_neg h

/-- The codewords taken, at a vector whose index is a codeword's number. -/
theorem taken_apply (I : IVec S4x8192 32) (q : Fin 4) (n : Fin 8192) (d : Fin 64) (s : Fin 1024)
    (hI : I (ix2 q n) = BitVec.ofNat 32 s.val) : taken c I (ix3 q n d) = c (ix3 q s d) := by
  have hs := starts_apply I q n s hI
  have hg := gather_apply c (starts I) q n d s hs
  unfold taken
  generalize starts I = S at *
  pointwise [inside]
  have h0 : IntOp.cmpi .sge (BitVec.ofNat 32 s.val) 0#32 = 1#1 :=
    (StableHlo.Predicate.sle_ofNat_iff 0 s.val (by norm_num) (by omega)).mpr (by omega)
  have h1 : IntOp.cmpi .sle (BitVec.ofNat 32 s.val) 1023#32 = 1#1 :=
    (StableHlo.Predicate.sle_ofNat_iff s.val 1023 (by omega) (by norm_num)).mpr (by omega)
  rw [Finset.univ_unique, Finset.fold_singleton]
  rw [show (default : Fin 1) = 0 from rfl, hs, h0, h1, hg]
  rfl

/-- A sum over all but the first axis of an array of five axes. -/
theorem sum_tail {a b c d e : Nat} (h : (⟨5, ![a, b, c, d, e]⟩ : Shape).ReducesTo [1, 2, 3, 4] ⟨1, ![a]⟩)
    (v : (⟨5, ![a, b, c, d, e]⟩ : Shape).Idx → EReal) (q : Fin a) :
    Ideal.hostReduceAdd h v 0 (ix1 q) = ∑ i : Fin b, ∑ j : Fin c, ∑ k : Fin d, ∑ l : Fin e, v (ix5 q i j k l) := by
  have hf : ∀ i, h.drop i = ix1 q ↔ ∃ y : Fin b × Fin c × Fin d × Fin e, ix5 q y.1 y.2.1 y.2.2.1 y.2.2.2 = i := by
    intro i
    constructor
    · intro w
      refine ⟨(i 1, i 2, i 3, i 4), ?_⟩
      funext t; apply Fin.ext
      match t with
      | ⟨0, _⟩ => exact (congrArg Fin.val (congrFun w (0 : Fin 1))).symm
      | ⟨1, _⟩ => rfl
      | ⟨2, _⟩ => rfl
      | ⟨3, _⟩ => rfl
      | ⟨4, _⟩ => rfl
    · rintro ⟨y, rfl⟩
      funext t; apply Fin.ext
      match t with
      | ⟨0, _⟩ => rfl
  unfold Ideal.hostReduceAdd
  rw [zero_add]
  refine (Finset.sum_filter_eq_sum_of_fiber _ (fun y : Fin b × Fin c × Fin d × Fin e => ix5 q y.1 y.2.1 y.2.2.1 y.2.2.2)
    (fun y z w => Prod.ext (congrFun w 1) (Prod.ext (congrFun w 2) (Prod.ext (congrFun w 3) (congrFun w 4)))) hf v).trans ?_
  simp only [Fintype.sum_prod_type]

/-- The summed squared difference of a layer. -/
def sqSum (z y : FVec Ideal S4x8x32x32x64 .f32) (q : Fin 4) : EReal :=
  ∑ b : Fin 8, ∑ h : Fin 32, ∑ w : Fin 32, ∑ d : Fin 64, (z (ix5 q b h w d) - y (ix5 q b h w d)) * (z (ix5 q b h w d) - y (ix5 q b h w d))

/-- A layer's loss. -/
theorem losses_apply (z y : FVec Ideal S4x8x32x32x64 .f32) (q : Fin 4) :
    layLoss (losses z y) (ix1 q) = Ideal.div (sqSum z y q) (Ideal.ofBits .f32 0x49000000#32)
      + Ideal.ofBits .f32 0x3E800000#32 * Ideal.div (sqSum z y q) (Ideal.ofBits .f32 0x49000000#32) := by
  unfold sqSum
  pointwise [layLoss, losses, meanSq]
  rw [sum_tail]
  pointwise

/-- The one-hot entry of an index word. -/
theorem hot_word (k s : Fin 1024) :
    (FloatOps.uitofp (F := Ideal) .f32 (IntOp.cmpi .eq (BitVec.ofNat 32 s.val) (BitVec.ofNat 32 k.val)) : EReal) = same k s := by
  show (((IntOp.cmpi .eq (BitVec.ofNat 32 s.val) (BitVec.ofNat 32 k.val)).toNat : ℝ) : EReal) = _
  unfold same IntOp.cmpi
  by_cases h : k = s
  · subst h
    simp
  · rw [if_neg h, show (BitVec.ofNat 32 s.val == BitVec.ofNat 32 k.val) = false from beq_eq_false_iff_ne.2 fun e => h ((word_inj s k).1 e).symm]
    simp

/-- A sum over a layer's vectors, image by image. -/
theorem sum_vectors (f : Fin 8 → Fin 1024 → EReal) :
    (∑ n : Fin 8192, f ⟨n.val / 1024, by omega⟩ ⟨n.val % 1024, by omega⟩) = ∑ b : Fin 8, ∑ t : Fin 1024, f b t := by
  rw [← Fintype.sum_prod_type']
  refine (Fintype.sum_equiv (finProdFinEquiv (m := 8) (n := 1024)) _ _ fun y => ?_).symm
  obtain ⟨b, t⟩ := y
  refine congrArg₂ f (Fin.ext ?_) (Fin.ext ?_)
  · show b.val = (t.val + 1024 * b.val) / 1024
    omega
  · show t.val = (t.val + 1024 * b.val) % 1024
    omega

/-- A sum over an image's positions, row by row. -/
theorem sum_positions (f : Fin 1024 → EReal) :
    (∑ h : Fin 32, ∑ w : Fin 32, f ⟨h.val * 32 + w.val, by omega⟩) = ∑ t : Fin 1024, f t := by
  rw [← Fintype.sum_prod_type']
  refine Fintype.sum_equiv (finProdFinEquiv (m := 32) (n := 32)) _ _ fun y => ?_
  obtain ⟨h, w⟩ := y
  refine congrArg f (Fin.ext ?_)
  show h.val * 32 + w.val = w.val + 32 * h.val
  omega

/-- What stands for the vectors, from their indices. -/
theorem quant_eq : quant x c = rows (taken c (idx x c)) := rfl

/-- The codeword in a vector's place, from the vector's index. -/
theorem rows_taken (I : IVec S4x8192 32) (q : Fin 4) (b : Fin 8) (h w : Fin 32) (d : Fin 64) (s : Fin 1024)
    (hI : I (ix2 q (⟨b.val * 1024 + h.val * 32 + w.val, by omega⟩ : Fin 8192)) = BitVec.ofNat 32 s.val) :
    rows (taken c I) (ix5 q b h w d) = c (ix3 q s d) := by
  have ht := taken_apply c I q _ d _ hI
  generalize taken c I = T at ht ⊢
  pointwise [rows]
  exact ht

/-- The indices in the results' layout. -/
theorem layIdx_apply (I : IVec S4x8192 32) (b : Fin 8) (q : Fin 4) (h w : Fin 32) :
    layIdx I (ix4 b q h w) = I (ix2 q (⟨b.val * 1024 + h.val * 32 + w.val, by omega⟩ : Fin 8192)) := by
  pointwise [layIdx]

variable (sel : Fin 4 → Fin 8 → Fin 1024 → Fin 1024)

/-- The codewords' frequencies. -/
theorem freq_apply (I : IVec S4x8192 32) (q : Fin 4) (k : Fin 1024)
    (hI : ∀ n : Fin 8192, I (ix2 q n) = BitVec.ofNat 32 (sel q ⟨n.val / 1024, by omega⟩ ⟨n.val % 1024, by omega⟩).val) :
    freq (F := Ideal) I (ix2 q k) = Ideal.div (∑ b : Fin 8, ∑ t : Fin 1024, same k (sel q b t)) (Ideal.ofBits .f32 0x46000000#32) := by
  rw [← sum_vectors]
  pointwise [freq, hot]
  simp only [hI, hot_word]

/-- A layer's perplexity. -/
theorem perplexity_apply (p : FVec Ideal S4x1024 .f32) (q : Fin 4) :
    perplexity (F := Ideal) p (ix1 q)
      = Ideal.exp (-∑ k : Fin 1024, p (ix2 q k) * Ideal.log (p (ix2 q k) + Ideal.ofBits .f32 0x2EDBE6FF#32)) := by
  pointwise [perplexity]

variable (hsel : ∀ q b (t : Fin 1024), IsFirst (rdist x c q b ⟨t.val / 32, row_lt t⟩ ⟨t.val % 32, col_lt t⟩) (sel q b t))
  (hT : ∀ q b h w k, rdist x c q b h w k < ⊤)

include hsel hT

/-- The reference's indices are the first nearest codewords. -/
theorem idx_sel (q : Fin 4) (n : Fin 8192) :
    idx x c (ix2 q n) = BitVec.ofNat 32 (sel q ⟨n.val / 1024, by omega⟩ ⟨n.val % 1024, by omega⟩).val := by
  refine idx_apply x c q n _ ?_ (hT _ _ _ _ _)
  have h := hsel q ⟨n.val / 1024, by omega⟩ ⟨n.val % 1024, by omega⟩
  have e1 : (⟨n.val / 32 % 32, by omega⟩ : Fin 32) = ⟨n.val % 1024 / 32, by omega⟩ := Fin.ext (by dsimp only; omega)
  have e2 : (⟨n.val % 32, by omega⟩ : Fin 32) = ⟨n.val % 1024 % 32, by omega⟩ := Fin.ext (by dsimp only; omega)
  rw [e1, e2]
  exact h

/-- The codeword that stands for a vector. -/
theorem quant_apply (q : Fin 4) (b : Fin 8) (h w : Fin 32) (d : Fin 64) :
    quant x c (ix5 q b h w d) = c (ix3 q (sel q b ⟨h.val * 32 + w.val, by omega⟩) d) := by
  have hi := idx_sel x c sel hsel hT q ⟨b.val * 1024 + h.val * 32 + w.val, by omega⟩
  have e1 : (⟨(b.val * 1024 + h.val * 32 + w.val) / 1024, by omega⟩ : Fin 8) = b := Fin.ext (by dsimp only; omega)
  have e2 : (⟨(b.val * 1024 + h.val * 32 + w.val) % 1024, by omega⟩ : Fin 1024) = ⟨h.val * 32 + w.val, by omega⟩ := Fin.ext (by dsimp only; omega)
  rw [e1, e2] at hi
  rw [quant_eq]
  exact rows_taken c (idx x c) q b h w d _ hi

/-- The second result of the reference. -/
theorem index_result (b : Fin 8) (q : Fin 4) (h w : Fin 32) :
    layIdx (idx x c) (ix4 b q h w) = BitVec.ofNat 32 (sel q b ⟨h.val * 32 + w.val, by omega⟩).val := by
  have hi := idx_sel x c sel hsel hT q ⟨b.val * 1024 + h.val * 32 + w.val, by omega⟩
  have e1 : (⟨(b.val * 1024 + h.val * 32 + w.val) / 1024, by omega⟩ : Fin 8) = b := Fin.ext (by dsimp only; omega)
  have e2 : (⟨(b.val * 1024 + h.val * 32 + w.val) % 1024, by omega⟩ : Fin 1024) = ⟨h.val * 32 + w.val, by omega⟩ := Fin.ext (by dsimp only; omega)
  rw [e1, e2] at hi
  exact (layIdx_apply (idx x c) b q h w).trans hi

/-- The first result of the reference. -/
theorem rows_result (b : Fin 8) (e : Fin 256) (h w : Fin 32) :
    layRows (addf (vecs x) (subf (quant x c) (vecs x))) (ix4 b e h w)
      = pix x ⟨e.val / 64, by omega⟩ b h w ⟨e.val % 64, by omega⟩
        + (c (ix3 (⟨e.val / 64, by omega⟩ : Fin 4) (sel ⟨e.val / 64, by omega⟩ b ⟨h.val * 32 + w.val, by omega⟩) (⟨e.val % 64, by omega⟩ : Fin 64))
          - pix x ⟨e.val / 64, by omega⟩ b h w ⟨e.val % 64, by omega⟩) := by
  rw [← quant_apply x c sel hsel hT, ← vecs_apply]
  generalize quant x c = Q
  generalize vecs x = Z
  pointwise [layRows]

/-- The summed squared error of a layer, position by position. -/
theorem sqSum_eq (q : Fin 4) :
    sqSum (quant x c) (vecs x) q = ∑ b : Fin 8, ∑ t : Fin 1024, ∑ d : Fin 64,
      (c (ix3 q (sel q b t) d) - pix x q b ⟨t.val / 32, by omega⟩ ⟨t.val % 32, by omega⟩ d)
        * (c (ix3 q (sel q b t) d) - pix x q b ⟨t.val / 32, by omega⟩ ⟨t.val % 32, by omega⟩ d) := by
  unfold sqSum
  refine Finset.sum_congr rfl fun b _ => ?_
  rw [← sum_positions]
  refine Finset.sum_congr rfl fun h _ => Finset.sum_congr rfl fun w _ => Finset.sum_congr rfl fun d _ => ?_
  rw [quant_apply x c sel hsel hT, vecs_apply]
  have e1 : (⟨(h.val * 32 + w.val) / 32, by omega⟩ : Fin 32) = h := Fin.ext (by dsimp only; omega)
  have e2 : (⟨(h.val * 32 + w.val) % 32, by omega⟩ : Fin 32) = w := Fin.ext (by dsimp only; omega)
  rw [e1, e2]

/-- The fourth result of the reference. -/
theorem perplexity_result (q : Fin 4) :
    perplexity (F := Ideal) (freq (idx x c)) (ix1 q)
      = Ideal.exp (-∑ k : Fin 1024, Ideal.div (∑ b : Fin 8, ∑ t : Fin 1024, same k (sel q b t)) (Ideal.ofBits .f32 0x46000000#32)
          * Ideal.log (Ideal.div (∑ b : Fin 8, ∑ t : Fin 1024, same k (sel q b t)) (Ideal.ofBits .f32 0x46000000#32) + Ideal.ofBits .f32 0x2EDBE6FF#32)) := by
  rw [perplexity_apply]
  simp only [freq_apply sel (idx x c) q _ (idx_sel x c sel hsel hT q)]

end VQ.Ref
-- ==== Proof.Equation.lean ====
/- The identities on finite numbers by which the kernel's formulas and the reference's agree. -/
module

public import proofs.«01_k».proof.Proof.KRed
public import proofs.«01_k».proof.Proof.RefRead

@[expose] public section

noncomputable section

open Idealize.ShloMosaic

namespace VQ

/-- The word of minus two. -/
theorem lit_neg_two : Ideal.ofBits .f32 0xC0000000#32 = ((-2 : ℝ) : EReal) := by
  simp [Ideal.ofBits, Ideal.ieee, -EReal.coe_mul]; norm_num

/-- The word of two. -/
theorem lit_two : Ideal.ofBits .f32 0x40000000#32 = ((2 : ℝ) : EReal) := by
  simp [Ideal.ofBits, Ideal.ieee, -EReal.coe_mul]; norm_num

/-- The word of a quarter. -/
theorem lit_quarter : Ideal.ofBits .f32 0x3E800000#32 = ((1 / 4 : ℝ) : EReal) := by
  simp [Ideal.ofBits, Ideal.ieee, -EReal.coe_mul]; norm_num

/-- The word of five quarters. -/
theorem lit_weight : Ideal.ofBits .f32 0x3FA00000#32 = ((5 / 4 : ℝ) : EReal) := by
  simp [Ideal.ofBits, Ideal.ieee, -EReal.coe_mul]; norm_num

/-- The word of the number of entries a layer's mean is over, 8 · 1024 · 64. -/
theorem lit_size : Ideal.ofBits .f32 0x49000000#32 = ((524288 : ℝ) : EReal) := by
  simp [Ideal.ofBits, Ideal.ieee, -EReal.coe_mul]; norm_num

/-- A sum of finite numbers is finite: the sum of the reals. -/
theorem sum_real {n : Nat} (f : Fin n → ℝ) : ∑ i, (f i : EReal) = ((∑ i, f i : ℝ) : EReal) := by
  have h : ∀ s : Finset (Fin n), ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact h Finset.univ

/-- A squared distance two ways: with the codeword doubled and negated and a quarter of its squares, and with the
    cross term doubled. -/
theorem dist_real (z e : Fin 64 → ℝ) :
    ((∑ d, (z d : EReal) * (z d : EReal)) + ∑ d, (Ideal.ofBits .f32 0xC0000000#32 * (e d : EReal)) * (z d : EReal))
        + Ideal.ofBits .f32 0x3E800000#32
          * ∑ d, (Ideal.ofBits .f32 0xC0000000#32 * (e d : EReal)) * (Ideal.ofBits .f32 0xC0000000#32 * (e d : EReal))
      = ((∑ d, (z d : EReal) * (z d : EReal)) - ∑ d, Ideal.ofBits .f32 0x40000000#32 * (z d : EReal) * (e d : EReal))
        + ∑ d, (e d : EReal) * (e d : EReal) := by
  rw [lit_neg_two, lit_two, lit_quarter]
  simp only [← EReal.coe_mul, sum_real, ← EReal.coe_add, ← EReal.coe_sub]
  congr 1
  rw [Finset.mul_sum, sub_eq_add_neg, ← Finset.sum_neg_distrib]
  congr 1
  · congr 1
    exact Finset.sum_congr rfl fun d _ => by ring
  · exact Finset.sum_congr rfl fun d _ => by ring

/-- Such a distance is finite. -/
theorem dist_lt (z e : Fin 64 → ℝ) :
    ((∑ d, (z d : EReal) * (z d : EReal)) - ∑ d, Ideal.ofBits .f32 0x40000000#32 * (z d : EReal) * (e d : EReal))
        + ∑ d, (e d : EReal) * (e d : EReal) < ⊤ := by
  rw [lit_two]
  simp only [← EReal.coe_mul, sum_real, ← EReal.coe_add, ← EReal.coe_sub]
  exact EReal.coe_lt_top _

/-- Adding a difference back. -/
theorem add_back (z q : ℝ) : (z : EReal) + ((q : EReal) - (z : EReal)) = (q : EReal) := by
  rw [← EReal.coe_sub, ← EReal.coe_add]
  congr 1
  ring

/-- The sum of a layer's squared errors is finite. -/
theorem err_real (f : Fin 8 → Fin 1024 → Fin 64 → ℝ) (g : Fin 8 → Fin 1024 → Fin 64 → ℝ) :
    ∃ s : ℝ, ∑ b, ∑ t, ∑ d, ((f b t d : EReal) - (g b t d : EReal)) * ((f b t d : EReal) - (g b t d : EReal)) = (s : EReal) := by
  simp only [← EReal.coe_sub, ← EReal.coe_mul, sum_real]
  exact ⟨_, rfl⟩

/-- Five quarters of a mean are the mean and a quarter of it. -/
theorem loss_real (s : ℝ) :
    Ideal.div (Ideal.ofBits .f32 0x3FA00000#32 * (s : EReal)) (Ideal.ofBits .f32 0x49000000#32)
      = Ideal.div (s : EReal) (Ideal.ofBits .f32 0x49000000#32)
        + Ideal.ofBits .f32 0x3E800000#32 * Ideal.div (s : EReal) (Ideal.ofBits .f32 0x49000000#32) := by
  rw [lit_weight, lit_size, lit_quarter, Ideal.div_coe (by norm_num), Ideal.div_coe (by norm_num)]
  simp only [← EReal.coe_mul, ← EReal.coe_add]
  congr 1
  ring

end VQ

end
-- ==== Proof.Match.lean ====
/- Layer by layer, the kernel's output blocks are the reference's results, on finite arguments. -/
module

public import proofs.«01_k».proof.Proof.Equation

@[expose] public section

noncomputable section

open Idealize.ShloMosaic
open Cert.KernelIdeal Cert.KernelIdeal.Gen
open VQ.Ref (pix rdist row_lt col_lt)

namespace VQ.Match

variable (x : FVec Ideal S8x256x32x32 .f32) (c : FVec Ideal S4x1024x64 .f32)
variable (a : S8x256x32x32.Idx → ℝ) (e : S4x1024x64.Idx → ℝ)
variable (hx : x = fun i => (a i : EReal)) (hc : c = fun i => (e i : EReal))

include hx in
/-- A number of a vector is finite. -/
theorem pix_real (q : Fin 4) (b : Fin 8) (h w : Fin 32) (d : Fin 64) :
    pix x q b h w d = ((a (ix4 b (⟨q.val * 64 + d.val, by omega⟩ : Fin 256) h w) : ℝ) : EReal) := by
  rw [hx]
  rfl

include hx hc in
/-- The reference's distances are finite. -/
theorem rdist_lt (q : Fin 4) (b : Fin 8) (h w : Fin 32) (k : Fin 1024) : rdist x c q b h w k < ⊤ := by
  unfold rdist
  simp only [pix_real x a hx, hc]
  exact dist_lt _ _

variable (q : Fin 4)
variable (x0 : Vec Ideal S8x1x64x1024 .f32) (x1 : Vec Ideal S1x1024x64 .f32) (x2 : Vec Ideal S1x64x1024 .f32)
variable (h0 : ∀ (b : Fin 8) (d : Fin 64) (t : Fin 1024),
  x0 (ix4 b (0 : Fin 1) d t) = pix x q b ⟨t.val / 32, row_lt t⟩ ⟨t.val % 32, col_lt t⟩ d)
variable (h1 : ∀ (k : Fin 1024) (d : Fin 64), x1 (ix3 (0 : Fin 1) k d) = Ideal.ofBits .f32 0xC0000000#32 * c (ix3 q k d))
variable (h2 : ∀ (d : Fin 64) (k : Fin 1024), x2 (ix3 (0 : Fin 1) d k) = c (ix3 q k d))

include hx hc h0 h1 in
/-- The body's distances for layer `q` are the reference's. -/
theorem kdist_eq (b : Fin 8) (t : Fin 1024) :
    Kern.kdist x0 x1 b t = rdist x c q b ⟨t.val / 32, row_lt t⟩ ⟨t.val % 32, col_lt t⟩ := by
  funext k
  unfold Kern.kdist rdist
  simp only [h0, h1, pix_real x a hx, hc]
  exact dist_real _ _

variable (sel : Fin 4 → Fin 8 → Fin 1024 → Fin 1024)
variable (hsel : ∀ q b (t : Fin 1024), IsFirst (rdist x c q b ⟨t.val / 32, row_lt t⟩ ⟨t.val % 32, col_lt t⟩) (sel q b t))

include hx hc h0 h1 hsel in
/-- The reference's choice of codewords is the body's. -/
theorem first_eq (b : Fin 8) (t : Fin 1024) : IsFirst (Kern.kdist x0 x1 b t) (sel q b t) := by
  rw [kdist_eq x c a e hx hc q x0 x1 h0 h1 b t]
  exact hsel q b t

include hx hc h0 h1 h2 hsel in
/-- The quantised rows: the codeword, which is the vector plus its difference from the codeword. -/
theorem rows_match (b : Fin 8) (d : Fin 64) (h w : Fin 32) :
    out0_3 (F := Ideal) x0 x1 x2 (ix4 b (0 : Fin 1) d (⟨h.val * 32 + w.val, by omega⟩ : Fin 1024))
      = pix x q b h w d + (c (ix3 q (sel q b ⟨h.val * 32 + w.val, by omega⟩) d) - pix x q b h w d) := by
  refine (Kern.out3_apply x0 x1 x2 (sel q) (first_eq x c a e hx hc q x0 x1 h0 h1 sel hsel) b d _).trans ?_
  rw [h2, pix_real x a hx, hc]
  exact (add_back _ _).symm

include hx hc h0 h1 hsel in
/-- The indices. -/
theorem index_match (b : Fin 8) (t : Fin 1024) :
    out0_4 (F := Ideal) x0 x1 x2 (ix4 (0 : Fin 1) (0 : Fin 1) b t) = BitVec.ofNat 32 (sel q b t).val :=
  Kern.out4_apply x0 x1 x2 (sel q) (first_eq x c a e hx hc q x0 x1 h0 h1 sel hsel) b t

/-- The reference's sum of squared errors of layer `q`. -/
def total : EReal :=
  ∑ b : Fin 8, ∑ t : Fin 1024, ∑ d : Fin 64,
    (c (ix3 q (sel q b t) d) - pix x q b ⟨t.val / 32, row_lt t⟩ ⟨t.val % 32, col_lt t⟩ d)
      * (c (ix3 q (sel q b t) d) - pix x q b ⟨t.val / 32, row_lt t⟩ ⟨t.val % 32, col_lt t⟩ d)

include h0 h2 in
/-- The body adds the same squared errors, over codeword entries first. -/
theorem err_eq : ∑ b : Fin 8, Kern.err x0 x2 (sel q) b = total x c q sel := by
  unfold Kern.err total
  refine Finset.sum_congr rfl fun b _ => ?_
  rw [Finset.sum_comm]
  simp only [h0, h2]

include hx hc in
/-- The sum is finite. -/
theorem total_real : ∃ s : ℝ, total x c q sel = (s : EReal) := by
  unfold total
  simp only [pix_real x a hx, hc]
  exact err_real _ _

include hx hc h0 h1 h2 hsel in
/-- The loss: five quarters of the mean, which is the mean and a quarter of it. -/
theorem loss_match (l : Fin 128) :
    out0_5 (F := Ideal) x0 x1 x2 (ix3 (0 : Fin 1) (0 : Fin 1) l)
      = Ideal.div (total x c q sel) (Ideal.ofBits .f32 0x49000000#32)
        + Ideal.ofBits .f32 0x3E800000#32 * Ideal.div (total x c q sel) (Ideal.ofBits .f32 0x49000000#32) := by
  refine (Kern.out5_apply x0 x1 x2 (sel q) (first_eq x c a e hx hc q x0 x1 h0 h1 sel hsel) l).trans ?_
  rw [err_eq x c q x0 x2 h0 h2 sel]
  obtain ⟨s, hs⟩ := total_real x c a e hx hc q sel
  rw [hs]
  exact loss_real s

include hx hc h0 h1 hsel in
/-- The perplexity. -/
theorem perplexity_match (l : Fin 128) :
    out0_6 (F := Ideal) x0 x1 x2 (ix3 (0 : Fin 1) (0 : Fin 1) l)
      = Ideal.exp (-∑ k : Fin 1024, Ideal.div (∑ b : Fin 8, ∑ t : Fin 1024, same k (sel q b t)) (Ideal.ofBits .f32 0x46000000#32)
          * Ideal.log (Ideal.div (∑ b : Fin 8, ∑ t : Fin 1024, same k (sel q b t)) (Ideal.ofBits .f32 0x46000000#32) + Ideal.ofBits .f32 0x2EDBE6FF#32)) := by
  refine (Kern.out6_apply x0 x1 x2 (sel q) (first_eq x c a e hx hc q x0 x1 h0 h1 sel hsel) l).trans ?_
  unfold Kern.count
  rw [zero_sub]

end VQ.Match

end
-- ==== Proof.Layout.lean ====
/- Where an element of each result lies in the arrays the kernel fills, and where an element of a block lies in the arguments. -/
module

public import proofs.«01_k».proof.Proof.KRun
public import proofs.«01_k».proof.Proof.RefRead

@[expose] public section

noncomputable section

open Idealize.ShloMosaic Idealize.ShloMosaic.TcCoe Idealize.SL.Sem
open Cert.KernelIdeal Cert.KernelIdeal.Gen
open VQ.Ref (pix)

namespace VQ.Layout

set_option maxRecDepth 16384

/-- An element of the quantised rows. -/
theorem rows_at (A : FVec Ideal S8x4x64x1024 .f32) (b : Fin 8) (r : Fin 256) (h w : Fin 32) :
    shapeCast S8x256x32x32 A shapeCasts_S8x4x64x1024_S8x256x32x32 (ix4 b r h w)
      = A (ix4 b (⟨r.val / 64, by omega⟩ : Fin 4) (⟨r.val % 64, by omega⟩ : Fin 64) (⟨h.val * 32 + w.val, by omega⟩ : Fin 1024)) := by
  pointwise

/-- An element of the indices. -/
theorem index_at (A : IVec S4x1x8x1024 32) (b : Fin 8) (q : Fin 4) (h w : Fin 32) :
    shapeCast S8x4x32x32 (transpose S8x4x1024 [1, 0, 2] (shapeCast S4x8x1024 A shapeCasts_S4x1x8x1024_S4x8x1024)
        transposes_S4x8x1024_S8x4x1024_1_0_2) shapeCasts_S8x4x1024_S8x4x32x32 (ix4 b q h w)
      = A (ix4 q (0 : Fin 1) b (⟨h.val * 32 + w.val, by omega⟩ : Fin 1024)) := by
  pointwise

/-- An element of the losses, or of the perplexities. -/
theorem layer_at (A : FVec Ideal S4x1x128 .f32) (q : Fin 4) :
    shapeCast S4 (extractStridedSlice S4x1x1 ![0, 0, 0] A slices_S4x1x128_S4x1x1_0_0_0) shapeCasts_S4x1x1_S4 (ix1 q)
      = A (ix3 q (0 : Fin 1) (0 : Fin 128)) := by
  pointwise

/-- The array of vectors, split by layers, at an element. -/
theorem split_at (x : FVec Ideal S8x256x32x32 .f32) (b : Fin 8) (q : Fin 4) (d : Fin 64) (t : Fin 1024) :
    shapeCast S8x4x64x1024 x shapeCasts_S8x256x32x32_S8x4x64x1024 (ix4 b q d t)
      = pix x q b ⟨t.val / 32, by omega⟩ ⟨t.val % 32, by omega⟩ d := by
  unfold pix
  pointwise

/-- The doubled and negated codewords at an element. -/
theorem scaled_at (c : FVec Ideal S4x1024x64 .f32) (q : Fin 4) (k : Fin 1024) (d : Fin 64) :
    mulf (broadcastInDim S4x1024x64 ![] bcast_S_S4x1024x64 (constant (F := Ideal) S_ .f32 0xC0000000#32)) c (ix3 q k d)
      = Ideal.ofBits .f32 0xC0000000#32 * c (ix3 q k d) := by
  pointwise

/-- The transposed codewords at an element. -/
theorem turned_at (c : FVec Ideal S4x1024x64 .f32) (q : Fin 4) (k : Fin 1024) (d : Fin 64) :
    transpose S4x64x1024 [0, 2, 1] c transposes_S4x1024x64_S4x64x1024_0_2_1 (ix3 q d k) = c (ix3 q k d) := by
  pointwise

variable (m : (ℓ : Loc nD τ sig) → Buf (Elt Ideal) ℓ) (dev : Dev nD)

/-- The block of vectors of layer `q`. -/
theorem in0 (q : Fin 4) (b : Fin 8) (d : Fin 64) (t : Fin 1024) :
    iblk m dev 0 (Kern.pt q) (ix4 b (0 : Fin 1) d t)
      = pix (m ((dev : Thread nD τ).loc main_arg0) : FVec Ideal S8x256x32x32 .f32) q b ⟨t.val / 32, by omega⟩ ⟨t.val % 32, by omega⟩ d :=
  (Kern.blk0 m dev b q d t).trans ((congrFun (Kern.entry0 m dev) _).trans (split_at _ b q d t))

/-- The block of doubled and negated codewords of layer `q`. -/
theorem in1 (q : Fin 4) (k : Fin 1024) (d : Fin 64) :
    iblk m dev 1 (Kern.pt q) (ix3 (0 : Fin 1) k d)
      = Ideal.ofBits .f32 0xC0000000#32 * (m ((dev : Thread nD τ).loc main_arg1) : FVec Ideal S4x1024x64 .f32) (ix3 q k d) :=
  (Kern.blk1 m dev q k d).trans ((congrFun (Kern.entry1 m dev) _).trans (scaled_at _ q k d))

/-- The block of codewords of layer `q`. -/
theorem in2 (q : Fin 4) (d : Fin 64) (k : Fin 1024) :
    iblk m dev 2 (Kern.pt q) (ix3 (0 : Fin 1) d k) = (m ((dev : Thread nD τ).loc main_arg1) : FVec Ideal S4x1024x64 .f32) (ix3 q k d) :=
  (Kern.blk2 m dev q d k).trans ((congrFun (Kern.entry2 m dev) _).trans (turned_at _ q k d))

end VQ.Layout

end
-- ==== Proof.Agree.lean ====
/- The kernel's four results are the reference's, on finite arguments. -/
module

public import proofs.«01_k».proof.Proof.Match
public import proofs.«01_k».proof.Proof.Layout

@[expose] public section

noncomputable section

open Idealize.ShloMosaic Idealize.ShloMosaic.TcCoe Idealize.SL.Sem
open Cert.KernelIdeal Cert.KernelIdeal.Gen
open VQ.Ref (pix rdist)

namespace VQ.Agree

/-- Every vector has a first nearest codeword. -/
theorem exists_sel (x : FVec Ideal S8x256x32x32 .f32) (c : FVec Ideal S4x1024x64 .f32) :
    ∃ sel : Fin 4 → Fin 8 → Fin 1024 → Fin 1024, ∀ q b (t : Fin 1024),
      IsFirst (rdist x c q b ⟨t.val / 32, by omega⟩ ⟨t.val % 32, by omega⟩) (sel q b t) :=
  ⟨fun q b t => (exists_isFirst (rdist x c q b ⟨t.val / 32, by omega⟩ ⟨t.val % 32, by omega⟩)).choose,
    fun _ _ _ => (exists_isFirst _).choose_spec⟩

variable (m : (ℓ : Loc nD τ sig) → Buf (Elt Ideal) ℓ) (dev : Dev nD)
variable (x : FVec Ideal S8x256x32x32 .f32) (c : FVec Ideal S4x1024x64 .f32)
variable (hX : m ((dev : Thread nD τ).loc main_arg0) = x) (hC : m ((dev : Thread nD τ).loc main_arg1) = c)
variable (a : S8x256x32x32.Idx → ℝ) (e : S4x1024x64.Idx → ℝ)
variable (hx : x = fun i => (a i : EReal)) (hc : c = fun i => (e i : EReal))

include hX in
/-- Layer `q`'s block of vectors, in terms of the arguments. -/
theorem in0 (q : Fin 4) (b : Fin 8) (d : Fin 64) (t : Fin 1024) :
    iblk m dev 0 (Kern.pt q) (ix4 b (0 : Fin 1) d t) = pix x q b ⟨t.val / 32, by omega⟩ ⟨t.val % 32, by omega⟩ d := by
  rw [← hX]
  exact Layout.in0 m dev q b d t

include hC in
/-- Layer `q`'s block of doubled and negated codewords, in terms of the arguments. -/
theorem in1 (q : Fin 4) (k : Fin 1024) (d : Fin 64) :
    iblk m dev 1 (Kern.pt q) (ix3 (0 : Fin 1) k d) = Ideal.ofBits .f32 0xC0000000#32 * c (ix3 q k d) := by
  rw [← hC]
  exact Layout.in1 m dev q k d

include hC in
/-- Layer `q`'s block of codewords, in terms of the arguments. -/
theorem in2 (q : Fin 4) (d : Fin 64) (k : Fin 1024) :
    iblk m dev 2 (Kern.pt q) (ix3 (0 : Fin 1) d k) = c (ix3 q k d) := by
  rw [← hC]
  exact Layout.in2 m dev q d k

include hX hC hx hc in
/-- The quantised rows agree. -/
theorem rows : shapeCast S8x256x32x32 ((dats m 0 dev).arrAt 3 cfg0.N : FVec Ideal S8x4x64x1024 .f32) shapeCasts_S8x4x64x1024_S8x256x32x32
    = Ref.layRows (addf (Ref.vecs x) (subf (Ref.quant x c) (Ref.vecs x))) := by
  obtain ⟨sel, hsel⟩ := exists_sel x c
  refine funext fun i => ?_
  rw [eq_ix4 i]
  refine (Layout.rows_at _ _ _ _ _).trans ((Kern.arr3 m dev _ _ _ _).trans ?_)
  refine (Match.rows_match x c a e hx hc _ _ _ _ (in0 m dev x hX _) (in1 m dev c hC _) (in2 m dev c hC _) sel hsel _ _ _ _).trans ?_
  exact (Ref.rows_result x c sel hsel (Match.rdist_lt x c a e hx hc) _ _ _ _).symm

include hX hC hx hc in
/-- The indices agree. -/
theorem index : shapeCast S8x4x32x32 (transpose S8x4x1024 [1, 0, 2] (shapeCast S4x8x1024 ((dats m 0 dev).arrAt 4 cfg0.N : IVec S4x1x8x1024 32) shapeCasts_S4x1x8x1024_S4x8x1024) transposes_S4x8x1024_S8x4x1024_1_0_2) shapeCasts_S8x4x1024_S8x4x32x32
    = Ref.layIdx (Ref.idx x c) := by
  obtain ⟨sel, hsel⟩ := exists_sel x c
  refine funext fun i => ?_
  rw [eq_ix4 i]
  refine (Layout.index_at _ _ _ _ _).trans ((Kern.arr4 m dev _ _ _).trans ?_)
  refine (Match.index_match x c a e hx hc _ _ _ _ (in0 m dev x hX _) (in1 m dev c hC _) sel hsel _ _).trans ?_
  exact (Ref.index_result x c sel hsel (Match.rdist_lt x c a e hx hc) _ _ _ _).symm

include hX hC hx hc in
/-- The losses agree. -/
theorem losses : shapeCast S4 (extractStridedSlice S4x1x1 ![0, 0, 0] ((dats m 0 dev).arrAt 5 cfg0.N : FVec Ideal S4x1x128 .f32) slices_S4x1x128_S4x1x1_0_0_0) shapeCasts_S4x1x1_S4
    = Ref.layLoss (Ref.losses (Ref.quant x c) (Ref.vecs x)) := by
  obtain ⟨sel, hsel⟩ := exists_sel x c
  refine funext fun i => ?_
  rw [eq_ix1 i]
  refine (Layout.layer_at _ _).trans ((Kern.arr5 m dev _ _).trans ?_)
  refine (Match.loss_match x c a e hx hc _ _ _ _ (in0 m dev x hX _) (in1 m dev c hC _) (in2 m dev c hC _) sel hsel _).trans ?_
  refine Eq.trans ?_ (Ref.losses_apply _ _ _).symm
  have hs := Ref.sqSum_eq x c sel hsel (Match.rdist_lt x c a e hx hc) (i 0)
  exact congrArg (fun s => Ideal.div s (Ideal.ofBits .f32 0x49000000#32)
    + Ideal.ofBits .f32 0x3E800000#32 * Ideal.div s (Ideal.ofBits .f32 0x49000000#32)) hs.symm

include hX hC hx hc in
/-- The perplexities agree. -/
theorem perplexity : shapeCast S4 (extractStridedSlice S4x1x1 ![0, 0, 0] ((dats m 0 dev).arrAt 6 cfg0.N : FVec Ideal S4x1x128 .f32) slices_S4x1x128_S4x1x1_0_0_0) shapeCasts_S4x1x1_S4
    = Ref.perplexity (F := Ideal) (Ref.freq (Ref.idx x c)) := by
  obtain ⟨sel, hsel⟩ := exists_sel x c
  refine funext fun i => ?_
  rw [eq_ix1 i]
  refine (Layout.layer_at _ _).trans ((Kern.arr6 m dev _ _).trans ?_)
  refine (Match.perplexity_match x c a e hx hc _ _ _ _ (in0 m dev x hX _) (in1 m dev c hC _) sel hsel _).trans ?_
  exact (Ref.perplexity_result x c sel hsel (Match.rdist_lt x c a e hx hc) _).symm

end VQ.Agree

end
-- ==== Proof.Tame.lean ====
/- What the precondition says of the arguments: every element is a finite number. -/
module

public import proofs.«01_k».proof.Pre_tame
public import Idealize.ShloMosaic.Lib.Pointwise
public import Idealize.ShloMosaic.Lib.ReduceAll

@[expose] public section

noncomputable section

open Idealize.ShloMosaic

namespace VQ

/-- A number whose absolute value compares below infinity is finite. -/
theorem finite_of_abs (x : EReal) (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

/-- The comparison the precondition makes of each element, read back. -/
theorem finite_of_cmp (x : EReal) (h : Ideal.cmp .olt (max x (-x)) (Ideal.ofBits .f32 0x7F800000#32) = 1#1) :
    ∃ r : ℝ, x = (r : EReal) := by
  refine finite_of_abs x ?_
  have ht : Ideal.ofBits .f32 0x7F800000#32 = (⊤ : EReal) := by simp [Ideal.ofBits, Ideal.ieee]
  rw [ht, Ideal.cmp_olt] at h
  by_contra hn
  simp [hn] at h

open Cert.Pre_tame in
/-- Under the precondition both arguments are arrays of reals. -/
theorem tame_real [Cert.Pre_tame.Facts] (x : FVec Ideal S8x256x32x32 .f32) (c : FVec Ideal S4x1024x64 .f32)
    (h : Cert.Pre_tame.fn (F := Ideal) x c = fun _ => 1#1) :
    (∃ a : S8x256x32x32.Idx → ℝ, x = fun i => (a i : EReal)) ∧ ∃ e : S4x1024x64.Idx → ℝ, c = fun i => (e i : EReal) := by
  have h0 := congrFun h (Shape.Idx.first Facts.h_S_)
  dsimp only [fn, fn_part1] at h0
  have h1 := (IntOp.andi_eq_one.1 h0).1
  have h2 := IntOp.andi_eq_one.1 h1
  haveI : Subsingleton S_.Idx := ⟨fun a b => funext fun i => i.elim0⟩
  constructor
  · have hx : ∀ i, ∃ r : ℝ, x i = (r : EReal) := fun i =>
      finite_of_cmp _ (Host.reduce_andi_all _ _ _ _ _ h2.1 i)
    choose a ha using hx
    exact ⟨a, funext ha⟩
  · have hx : ∀ i, ∃ r : ℝ, c i = (r : EReal) := fun i =>
      finite_of_cmp _ (Host.reduce_andi_all _ _ _ _ _ h2.2 i)
    choose a ha using hx
    exact ⟨a, funext ha⟩

end VQ

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tame
public import proofs.«01_k».proof.Proof.RefRun
public import proofs.«01_k».proof.Proof.Agree
public import proofs.«01_k».proof.Proof.Tame
public import Idealize.ShloMosaic.Adequacy
public import Idealize.ShloMosaic.Init

@[expose] public section

noncomputable section

namespace Cert.Proof

open Idealize.ShloMosaic Idealize.SL.Sem Cert.Kernel

/-- The reference's frame: its run read at the arguments. It declares no semaphore. -/
theorem frame_r : Cert.quiescent_ReferenceIdeal := fun m ρ _ =>
  (θ_run Cert.ReferenceIdeal.defs _ _).mono
    (fun r h => ⟨fun c => (h c).2.2.2.2, Idealize.ShloMosaic.sem_eq_zero_of_no_sems (by decide) r.2⟩)
    (VQ.Ref.run (F := Ideal) m ρ)

/-- The kernel's four results and the reference's are equal: the reference's formulas of the arguments. -/
theorem algebraic : Cert.algebraic_KernelIdeal_ReferenceIdeal := by
  intro m ρ m' ρ' hpre hagree
  refine ⟨_, _, _, _, ?_, (θ_run Cert.ReferenceIdeal.defs _ _).mono (fun r h => h) (VQ.Ref.run (F := Ideal) m' ρ')⟩
  refine (θ_run Cert.KernelIdeal.defs _ _).mono (fun r h c => ?_) (VQ.Kern.run (F := Ideal) m ρ)
  obtain ⟨h0, h1, h2, h3, ha⟩ := h c
  obtain ⟨e0, e1⟩ := hagree c
  obtain ⟨⟨a, hx⟩, ⟨e, hc⟩⟩ := VQ.tame_real _ _ (hpre c)
  refine ⟨h0.trans ?_, h1.trans ?_, h2.trans ?_, h3.trans ?_, ha⟩
  · exact VQ.Agree.rows m c _ _ e0.symm e1.symm a e (e0.trans hx) (e1.trans hc)
  · exact VQ.Agree.index m c _ _ e0.symm e1.symm a e (e0.trans hx) (e1.trans hc)
  · exact VQ.Agree.losses m c _ _ e0.symm e1.symm a e (e0.trans hx) (e1.trans hc)
  · exact VQ.Agree.perplexity m c _ _ e0.symm e1.symm a e (e0.trans hx) (e1.trans hc)

/-- The certificate's claim. -/
theorem claim : Cert.Claim := ⟨Cert.Kernel.Gen.facts, Cert.KernelIdeal.Gen.facts, Cert.ReferenceIdeal.Gen.facts, Cert.Pre_tame.Gen.facts,
  fun m ρ _ => Cert.Kernel.Gen.frame m ρ,
  fun m ρ _ => Cert.Kernel.Gen.frame m ρ,
  fun m ρ _ => Cert.KernelIdeal.Gen.frame m ρ,
  frame_r,
  fun m ρ _ => frame_r m ρ trivial,
  trivial,
  algebraic⟩

end Cert.Proof

end
